-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048 : Shape := ⟨2, ![4, 2048]⟩
abbrev S4096x2048 : Shape := ⟨2, ![4096, 2048]⟩
abbrev S2048 : Shape := ⟨1, ![2048]⟩
abbrev S1x2048 : Shape := ⟨2, ![1, 2048]⟩
abbrev S4x2048x2048 : Shape := ⟨3, ![4, 2048, 2048]⟩
abbrev S1x512x2048 : Shape := ⟨3, ![1, 512, 2048]⟩
abbrev S4x512x2048 : Shape := ⟨3, ![4, 512, 2048]⟩
abbrev S512x2048 : Shape := ⟨2, ![512, 2048]⟩
abbrev S4 : Shape := ⟨1, ![4]⟩
abbrev S1 : Shape := ⟨1, ![1]⟩
abbrev S_ : Shape := ⟨0, ![]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x2048, .i32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4x2048x2048, .f32⟩
  | .local _ .vmem, ⟨0, _⟩ => ⟨S1x2048, .f32⟩
  | .local _ .vmem, ⟨1, _⟩ => ⟨S1x2048, .f32⟩
  | .local _ .vmem, ⟨2, _⟩ => ⟨S1x512x2048, .f32⟩
  | .local _ .vmem, ⟨3, _⟩ => ⟨S1x512x2048, .f32⟩
  | .local _ .vmem, ⟨4, _⟩ => ⟨S4x512x2048, .f32⟩
  | .local _ .vmem, ⟨5, _⟩ => ⟨S512x2048, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048 : Shape := ⟨2, ![4, 2048]⟩
abbrev S4096x2048 : Shape := ⟨2, ![4096, 2048]⟩
abbrev S2048 : Shape := ⟨1, ![2048]⟩
abbrev S1x2048 : Shape := ⟨2, ![1, 2048]⟩
abbrev S1x1x1x2048 : Shape := ⟨4, ![1, 1, 1, 2048]⟩
abbrev S4x1x1x2048 : Shape := ⟨4, ![4, 1, 1, 2048]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x2048 : Shape := ⟨3, ![4, 2048, 2048]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048, .i32⟩
  | .hbm, ⟨5, _⟩ => ⟨S1x2048, .i32⟩
  | .hbm, ⟨6, _⟩ => ⟨S1x1x1x2048, .i32⟩
  | .hbm, ⟨7, _⟩ => ⟨S4x1x1x2048, .i32⟩
  | .hbm, ⟨8, _⟩ => ⟨S4x2048, .i32⟩
  | .hbm, ⟨9, _⟩ => ⟨S_, .i32⟩
  | .hbm, ⟨10, _⟩ => ⟨S4x2048, .i32⟩
  | .hbm, ⟨11, _⟩ => ⟨S4x2048, .i1⟩
  | .hbm, ⟨12, _⟩ => ⟨S_, .i32⟩
  | .hbm, ⟨13, _⟩ => ⟨S4x2048, .i32⟩
  | .hbm, ⟨14, _⟩ => ⟨S4x2048, .i32⟩
  | .hbm, ⟨15, _⟩ => ⟨S4x2048, .i32⟩
  | .hbm, ⟨16, _⟩ => ⟨S4x2048x1, .i32⟩
  | .hbm, ⟨17, _⟩ => ⟨S1, .i32⟩
  | .hbm, ⟨18, _⟩ => ⟨S_, .i32⟩
  | .hbm, ⟨19, _⟩ => ⟨S4x2048x1, .i32⟩
  | .hbm, ⟨20, _⟩ => ⟨S4x2048x1, .i1⟩
  | .hbm, ⟨21, _⟩ => ⟨S1x1x1, .i32⟩
  | .hbm, ⟨22, _⟩ => ⟨S4x2048x1, .i32⟩
  | .hbm, ⟨23, _⟩ => ⟨S4x2048x1, .i1⟩
  | .hbm, ⟨24, _⟩ => ⟨S4x2048x1, .i1⟩
  | .hbm, ⟨25, _⟩ => ⟨S_, .i1⟩
  | .hbm, ⟨26, _⟩ => ⟨S4x2048, .i1⟩
  | .hbm, ⟨27, _⟩ => ⟨S4x2048x2048, .f32⟩
  | .hbm, ⟨28, _⟩ => ⟨S4x2048x2048, .i1⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S_, .i32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x1, .f32⟩
  | .hbm, ⟨68, _⟩ => ⟨S4x2048x2048, .f32⟩
  | .hbm, ⟨69, _⟩ => ⟨S4x2048x2048, .f32⟩
  | .hbm, ⟨70, _⟩ => ⟨S1x1x2048, .f32⟩
  | .hbm, ⟨71, _⟩ => ⟨S4x2048x2048, .f32⟩
  | .hbm, ⟨72, _⟩ => ⟨S4x2048x2048, .f32⟩
  | .hbm, ⟨73, _⟩ => ⟨S1x1x2048, .f32⟩
  | .hbm, ⟨74, _⟩ => ⟨S4x2048x2048, .f32⟩
  | .hbm, ⟨75, _⟩ => ⟨S4x2048x2048, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_cst_3 : Ref sig .tc := ⟨.hbm, 56, rfl⟩
abbrev main_call1_v13 : Ref sig .tc := ⟨.hbm, 57, rfl⟩
abbrev main_call1_cst_4 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩

abbrev nD : Nat := 1
abbrev τ : Topo := Topo.v7x

variable {F : FTy → Type} [FloatOps F]
-- ==== Proof.RowNorm.lean ====
/- The layer norm of one row over the extended reals, in the two spellings the programs use: the reference divides by the square root of
   the variance plus epsilon, the kernel multiplies by the reciprocal square root of it. The two agree on every row. -/
module

public import Idealize.ShloMosaic.Lib.IdealHost

@[expose] public section

noncomputable section

namespace Cert.RowNorm

open Idealize.ShloMosaic
open scoped BigOperators

/-- The number of columns, as the programs' constant. -/
def width : EReal := Ideal.ofBits .f32 0x45000000#32
/-- Epsilon, as the programs' constant. -/
def eps : EReal := Ideal.ofBits .f32 0x3727C5AC#32

/-- The constant of the number of columns is the real 2048. -/
theorem width_eq : width = ((2048 : ℝ) : EReal) := by
  unfold width; simp [Ideal.ofBits, Ideal.ieee, -EReal.coe_mul]; norm_num

/-- Epsilon is above zero. -/
theorem eps_pos : 0 < eps := by
  unfold eps
  have h : Ideal.ofBits .f32 0x3727C5AC#32 = (((10995116 : ℝ) * 2 ^ (-40 : ℤ) : ℝ) : EReal) := by
    simp [Ideal.ofBits, Ideal.ieee, -EReal.coe_mul]
  rw [h, ← EReal.coe_zero, EReal.coe_lt_coe_iff]; positivity

/-- The mean of a row. -/
def mean (x : Fin 2048 → EReal) : EReal := Ideal.div (∑ k, x k) width
/-- The variance of a row: the mean of the squared differences from the mean. -/
def var (x : Fin 2048 → EReal) : EReal := Ideal.div (∑ k, (x k - mean x) * (x k - mean x)) width
/-- The layer norm of a row at column `d`, with scale `g` and shift `b`. -/
def norm (x : Fin 2048 → EReal) (g b : EReal) (d : Fin 2048) : EReal := Ideal.div (x d - mean x) (Ideal.sqrt (var x + eps)) * g + b

/-- A square is not below zero. -/
theorem mul_self_nonneg (a : EReal) : 0 ≤ a * a := by
  rcases le_total 0 a with h | h
  · exact mul_nonneg h h
  · rw [← neg_mul_neg]
    have h' : 0 ≤ -a := by rw [EReal.neg_nonneg]; exact h
    exact mul_nonneg h' h'

/-- The variance is not below zero. -/
theorem var_nonneg (x : Fin 2048 → EReal) : 0 ≤ var x := by
  unfold var Ideal.div
  have hw : width ≠ 0 := by rw [width_eq, ← EReal.coe_zero, Ne, EReal.coe_eq_coe_iff]; norm_num
  rw [if_neg hw]
  refine mul_nonneg (Finset.sum_nonneg fun k _ => mul_self_nonneg _) ?_
  rw [width_eq, ← EReal.coe_inv, ← EReal.coe_zero, EReal.coe_le_coe_iff]; norm_num

/-- Above zero, multiplying by the reciprocal square root is dividing by the square root. -/
theorem mul_rsqrt (a v : EReal) (hv : 0 < v) : a * Ideal.rsqrt v = Ideal.div a (Ideal.sqrt v) := by
  induction v with
  | bot => exact absurd hv (by simp)
  | top => rw [Ideal.rsqrt_top, Ideal.sqrt_top, Ideal.div, if_neg (by simp), EReal.inv_top]
  | coe r =>
    have hr : 0 < r := by exact_mod_cast hv
    have hs : Real.sqrt r ≠ 0 := (Real.sqrt_pos.2 hr).ne'
    rw [Ideal.rsqrt_coe, Ideal.sqrt_coe, if_neg (not_lt.2 hr.le), if_neg hr.ne', if_neg (not_lt.2 hr.le), Ideal.div,
      if_neg (by exact_mod_cast hs), EReal.coe_inv]

/-- The layer norm in the kernel's spelling: a product with the reciprocal square root. -/
theorem norm_eq_mul_rsqrt (x : Fin 2048 → EReal) (g b : EReal) (d : Fin 2048) :
    norm x g b d = (x d - mean x) * Ideal.rsqrt (var x + eps) * g + b := by
  unfold norm
  rw [mul_rsqrt _ _ (lt_of_lt_of_le eps_pos (le_add_of_nonneg_left (var_nonneg x)))]

end Cert.RowNorm

end
-- ==== Proof.RingSetup.lean ====
/- What the kernel's run is stated over: where its branches are taken, the buffers its body works on, and the ring of transfers that brings the
   table in. Four transfers, started at the first point, each fill one slot of a scratch with one block of 512 rows of the table and signal one
   counter; the blocks are waited for one by one, at points 0, 4, 8 and 12. -/
module

public import proofs.«01_k».proof.Proof.Gen.Kernel.Frame
public import proofs.«01_k».proof.Proof.Gen.Kernel.Skeleton
public import Idealize.ShloMosaic.Lib.Ring.AtN

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## The main program up to the launch, and the windows' blocks -/

set_option maxHeartbeats 800000 in
/-- The main program runs its host operations, then launches the kernel on the arrays as they leave them. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The scale window's buffer holds the window's block before every call of the body, if the body leaves it there. -/
theorem before_scale_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The shift window's buffer likewise. -/
theorem before_shift_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branches -/

/-- The condition of the body's branches: the row block is `a` and the batch index is 0. -/
abbrev branch (a : ℕ) (i : grid0.Coords) : Prop :=
  (Scalar.cmpi .ne (Scalar.extui (Scalar.andi (Scalar.cmpi .eq (BitVec.ofNat 32 (i 0).val) (BitVec.ofNat 32 a)) (Scalar.cmpi .eq (BitVec.ofNat 32 (i 1).val) 0#32))) 0#32) = 1#1

/-- It holds at point `4 * a` alone. -/
theorem branch_iff (a : ℕ) (ha : a < 4) (t : Fin cfg0.N) : branch a (grid0.coords t) ↔ t.val = 4 * a :=
  (by decide +kernel : ∀ (a : Fin 4) (t : Fin grid0.N), branch a.val (grid0.coords t) ↔ t.val = 4 * a.val) ⟨a, ha⟩ t

/-! ## The buffers of the body -/

/-- The buffers that the body is given at point `t` for its three windows, and that each is a whole buffer. -/
abbrev stage0 (t : Fin cfg0.N) : Memref sig .tc .vmem S1x2048 .f32 := win0_0.stage (cfg0.slots t 0)
abbrev stage0_whole (t : Fin cfg0.N) : (stage0 t).IsWhole := hstage0_0 ((cfg0.slots t 0).cast nbuf0_0)
abbrev stage1 (t : Fin cfg0.N) : Memref sig .tc .vmem S1x2048 .f32 := win0_1.stage (cfg0.slots t 1)
abbrev stage1_whole (t : Fin cfg0.N) : (stage1 t).IsWhole := hstage0_1 ((cfg0.slots t 1).cast nbuf0_1)
abbrev stage2 (t : Fin cfg0.N) : Memref sig .tc .vmem S1x512x2048 .f32 := win0_2.stage (cfg0.slots t 2)
/-- The scratch of four slots, -/
abbrev slotsM : Memref sig .tc .vmem S4x512x2048 .f32 := Memref.whole cc0_scratch0
/-- the scratch that holds the block computed last, -/
abbrev rowsM : Memref sig .tc .vmem S512x2048 .f32 := Memref.whole cc0_scratch1
/-- and the table. -/
abbrev tableM : Memref sig .tc .hbm S4096x2048 .f32 := Memref.whole main_arg1
/-- The contents of `M`'s buffer on core `c`, and that buffer held whole at `f`. -/
abbrev BufOf (c : Dev nD) {sp : Space} {S : Shape} {e : EltTy} (M : Memref sig .tc sp S e) : Type := Buf (Elt F) (M.view.loc (c : Thread nD τ))
abbrev wholeAt (c : Dev nD) {sp : Space} {S : Shape} {e : EltTy} (M : Memref sig .tc sp S e) (f : BufOf (F := F) c M) : sProp 𝕄 :=
  M.view.loc (c : Thread nD τ) ↦{fullShare} f

/-- The kernel's own counters, one for each slot; none is a window's. -/
abbrev ownCells : Fin 4 → SemLoc sig := fun j => (![SemLoc.dma 4, SemLoc.dma 5, SemLoc.dma 6, SemLoc.dma 7] : Fin 4 → SemLoc sig) j
theorem ownCells_facts : Pipeline.OwnSemFacts spec0 ownCells := by decide
/-- The four counters at zero. -/
abbrev cellsZero (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
theorem ownCells_zero (c : Dev nD) :
    (Pipeline.ownSems0 (Ix := Unit) (Name := ℕ) (U := Pipeline.UD sig nD τ) (Lvl := ℕ) (Val := Elt F) (τ := τ) ownCells c : sProp 𝕄) = cellsZero c := by
  rw [Pipeline.ownSems0_eq_of_list c ownCells [0, 1, 2, 3] (by decide) (by decide)]; rfl

/-- The arrays that the body itself transfers from: the table alone. -/
def ownArrays : Finset (Ref sig .tc) := {main_arg1}
theorem ownArrays_sub : ownArrays ⊆ Pipeline.restRefs sig spec0 := by decide
theorem ownArrays_eq (c : Dev nD) :
    (bigSep ownArrays (fun b => ((c : Thread nD τ).loc b) ↦{fullShare} V m c b) : sProp 𝕄) = iprop(wholeAt c tableM (V m c main_arg1)) := by
  rw [BI.bigSep_eq_bigSepL_of_eq [main_arg1] (by decide) (by decide)]; rfl

/-- What the launch lends the body: both scratches at anything, the generator register, the counters at zero, and the table. -/
theorem lent_eq (c : Dev nD) :
    (Pipeline.ΦD ownCells spec0 ownArrays (V m) c : sProp 𝕄)
      = iprop(iprop((∃ d, owns (c : Thread nD τ) slotsM fullShare d) ∗ (∃ d, owns (c : Thread nD τ) rowsM fullShare d)) ∗ (∃ r, prngReg c r)
          ∗ iprop(cellsZero c) ∗ iprop(wholeAt c tableM (V m c main_arg1))) := by
  rw [Pipeline.ΦD_eq, scopedRest0_eq, ownCells_zero, ownArrays_eq]; simp only [slotsM, rowsM, owns_whole]; try rfl

/-! ## Slots, blocks and counters -/

instance : NeZero grid0.N := ⟨by rw [N_0]; decide⟩

/-- How many blocks were waited for before point `t`. -/
def steps (t : ℕ) : ℕ := (t + 3) / 4

theorem inb_slot (s : Fin 4) : ∀ a, (![s.val, 0, 0] : Fin 3 → Nat) a + S1x512x2048.size a ≤ S4x512x2048.size a := by
  have := s.isLt; intro a; fin_cases a <;> simp <;> omega
theorem inb_block (b : Fin 4) : ∀ a, (![512 * b.val, 0] : Fin 2 → Nat) a + S512x2048.size a ≤ S4096x2048.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega

/-- Slot `s` of the scratch, -/
def slotM (s : Fin 4) : Memref sig .tc .vmem S512x2048 .f32 :=
  (slotsM.slice (Rect.unit (s := S4x512x2048) ![s.val, 0, 0] S1x512x2048.size (inb_slot s)) (fun _ => rfl)).squeeze S512x2048 squeezes_S1x512x2048_S512x2048
/-- block `b` of the table, -/
def blockM (b : Fin 4) : Memref sig .tc .hbm S512x2048 .f32 :=
  tableM.slice (Rect.unit (s := S4096x2048) ![512 * b.val, 0] S512x2048.size (inb_block b)) (fun _ => rfl)
/-- and counter `s`. -/
def cellA (s : Fin 4) : DmaSems sig S_ := (cc0_scratch2.slice (Rect.unit (s := S4) ![s.val] S1.size (inb_cell s))).squeeze S_ squeezes_S1_S_
abbrev cellR (s : Fin 4) : SemLoc sig := SemLoc.dma (cellA s).sem
/-- The counters by slot are those the launch lists. -/
theorem cellR_eq : ∀ s : Fin 4, cellR s = ownCells s := by decide

section Spell
omit [FloatOps F]

/-- A slice of the scratch at slot `s`'s offsets is slot `s`, -/
theorem slot_spell {off : Fin 3 → ℕ} (inb : ∀ a, off a + S1x512x2048.size a ≤ S4x512x2048.size a) (s : Fin 4) (h : off = ![s.val, 0, 0]) :
    (slotsM.slice (Rect.unit (s := S4x512x2048) off S1x512x2048.size inb) (fun _ => rfl)).squeeze S512x2048 squeezes_S1x512x2048_S512x2048 = slotM s := by
  subst h; rfl
/-- a slice of the table at block `b`'s offsets is block `b`, -/
theorem block_spell {off : Fin 2 → ℕ} (inb : ∀ a, off a + S512x2048.size a ≤ S4096x2048.size a) (b : Fin 4) (h : off = ![512 * b.val, 0]) :
    tableM.slice (Rect.unit (s := S4096x2048) off S512x2048.size inb) (fun _ => rfl) = blockM b := by
  subst h; rfl
/-- and a slice of the counters at `s` is counter `s`. -/
theorem cell_spell {off : Fin 1 → ℕ} (inb : ∀ a, off a + S1.size a ≤ S4.size a) (s : Fin 4) (h : off = ![s.val]) :
    (cc0_scratch2.slice (Rect.unit (s := S4) off S1.size inb)).squeeze S_ squeezes_S1_S_ = cellA s := by
  subst h; rfl
/-- A load of the scratch at slot `s`'s offsets reads elements of slot `s` only. -/
theorem load_sub {off : Fin 3 → ℕ} (inb : ∀ a, off a + S1x512x2048.size a ≤ S4x512x2048.size a) (s : Fin 4) (h : off = ![s.val, 0, 0]) :
    slotsM.view.setOn (Rect.unit (s := S4x512x2048) off S1x512x2048.size inb).toLoadRect.set ⊆ (slotM s).view.set := by
  subst h; unfold slotM
  refine Memref.subset_of_set_eq (Memref.setOn_subset_slice_of_within _ _ _ _ ?_) (Memref.set_view_squeeze _ _)
  revert s; decide

end Spell

/-! ## The ring -/

section Ring
variable (c : Dev nD) (W : BufOf (F := F) c tableM)

/-- The share of the table that slot `s` borrows from: the whole share halved three times. -/
abbrev shareOf (s : Fin 4) : PosShare TreeShare :=
  if s.val = 0 then fullShare.left else if s.val = 1 then fullShare.right.left else if s.val = 2 then fullShare.right.right.left else fullShare.right.right.right
/-- Slot `s` held at `f`; -/
abbrev slotP (s : Fin 4) (f : BufOf (F := F) c (slotM s)) : sProp 𝕄 := (slotM s).view.loc (c : Thread nD τ) ↦[(slotM s).view.set]{fullShare} f
/-- counter `s` at zero; -/
abbrev cellP (s : Fin 4) : sProp 𝕄 := semVal ((c : Thread nD τ), cellR s) 0
/-- block `b` of slot `s`'s share of the table, the rest of that share, and the share whole; -/
abbrev blockP (s : Fin 4) (b : Fin 4) : sProp 𝕄 := (blockM b).view.loc (c : Thread nD τ) ↦[(blockM b).view.set]{shareOf s} W
def restP (s : Fin 4) (b : Fin 4) : sProp 𝕄 := ((c : Thread nD τ).loc main_arg1) ↦[Finset.univ \ (blockM b).view.set]{shareOf s} W
abbrev tableP (s : Fin 4) : sProp 𝕄 := ((c : Thread nD τ).loc main_arg1) ↦[Finset.univ]{shareOf s} W
/-- slot `s` after block `b` landed in it over `f`; -/
abbrev landed (s : Fin 4) (b : Fin 4) (f : BufOf (F := F) c (slotM s)) : BufOf (F := F) c (slotM s) :=
  (slotM s).view.writes (Elt F) f [⟨Rect.whole S512x2048, ReadAs.same.apply ((blockM b).view.read (Elt F) W)⟩]
/-- the transfer of block `b` into slot `s`, under way: it will give back the slot landed and the block it borrowed; -/
abbrev flightP (s : Fin 4) (b : Fin 4) (f : BufOf (F := F) c (slotM s)) : sProp 𝕄 :=
  Transfers.Flight countersEmb (c : Thread nD τ) (cellR s) default ((slotM s).view.amount (cellR s))
    iprop(slotP c s (landed c W s b f) ∗ blockP c W s b)
/-- a slot at rest, with its share of the table; a slot being filled, with the rest of its share; no block is kept apart. -/
abbrev restSlot (s : Fin 4) (f : BufOf (F := F) c (slotM s)) : sProp 𝕄 := iprop(slotP c s f ∗ tableP c W s)
abbrev fillSlot (s : Fin 4) (b : Fin 4) (f : BufOf (F := F) c (slotM s)) : sProp 𝕄 := iprop(flightP c W s b f ∗ restP c W s b)
abbrev noHome (b : Fin 4) : sProp 𝕄 := iprop(emp)
/-- The ring after `k` waits: every slot at rest before the first point; then blocks `k` and later under way, the other slots at rest. -/
def ringAt (k : ℕ) : sProp 𝕄 :=
  if k = 0 then Ring.At₀ (cellP c) (restSlot c W) noHome else Ring.At 3 (cellP c) (restSlot c W) noHome (fillSlot c W) k

omit [FloatOps F] in
/-- Counter `s` at zero, under the name that the launch gives it. -/
theorem cellP_eq (s : Fin 4) : cellP (F := F) c s = semVal ((c : Thread nD τ), ownCells s) 0 :=
  congrArg (fun x => (semVal ((c : Thread nD τ), x) 0 : sProp 𝕄)) (cellR_eq s)

/-! ## The slots make up the scratch, and the shares the table -/

/-- The elements of slot `s`. -/
abbrev slotSet (s : Fin 4) : Finset S4x512x2048.Idx := (Rect.unit (s := S4x512x2048) ![s.val, 0, 0] S1x512x2048.size (inb_slot s)).set
theorem slotSet_eq (s : Fin 4) : (slotM s).view.set = slotSet s := by
  simp only [slotM, Memref.view_squeeze, View.set_reshape]; exact View.set_slice_whole _ _
/-- Two slots share no element, -/
theorem slots_disjoint (s s' : Fin 4) (h : s ≠ s') : Disjoint (slotSet s) (slotSet s') :=
  Ring.lead_disjoint (s := S4x512x2048) (0 : Fin 3) 1 (fun s : Fin 4 => (![s.val, 0, 0] : Fin 3 → Nat)) S1x512x2048.size inb_slot (fun s => by simp) rfl s s' h
/-- and the slots cover the scratch. -/
theorem slots_cover : Finset.univ.biUnion slotSet = Finset.univ :=
  Ring.lead_cover (s := S4x512x2048) (0 : Fin 3) 1 (fun s : Fin 4 => (![s.val, 0, 0] : Fin 3 → Nat)) S1x512x2048.size inb_slot (fun s => by simp)
    (fun s a ha => by fin_cases a <;> first | exact absurd rfl ha | rfl) rfl (fun a ha => by fin_cases a <;> first | exact absurd rfl ha | rfl) rfl

theorem slotP_eq (s : Fin 4) (f) : slotP (F := F) c s f = (((c : Thread nD τ).loc cc0_scratch0) ↦[slotSet s]{fullShare} f : sProp 𝕄) := by
  unfold slotP; rw [slotSet_eq]; rfl

/-- A slot's share of the table is any one block of it and the rest. -/
theorem table_split (s : Fin 4) (b : Fin 4) : tableP (F := F) c W s ⊣⊢ iprop(blockP c W s b ∗ restP c W s b) := by
  unfold restP; exact pointsTo_split_subset (Finset.subset_univ _)

/-- The table held whole is the four slots' shares of it. -/
theorem table_shares : (wholeAt c tableM W : sProp 𝕄) ⊣⊢ iprop(tableP c W 0 ∗ tableP c W 1 ∗ tableP c W 2 ∗ tableP c W 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3

set_option maxHeartbeats 1000000 in
/-- The scratch at anything is its four slots at anything, -/
theorem slots_split : iprop(∃ d, owns (c : Thread nD τ) slotsM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [slotsM, owns_whole]
  exact Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

set_option maxHeartbeats 1000000 in
/-- and back. -/
theorem slots_join : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) slotsM fullShare d) := by
  simp only [slotsM, owns_whole]
  exact Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

/-- A slot at anything, its counter and its share of the table make the slot free, -/
theorem free_in (s : Fin 4) : iprop(semVal ((c : Thread nD τ), ownCells s) 0 ∗ (∃ f, slotP (F := F) c s f) ∗ tableP c W s)
    ⊢ (Ring.free (cellP c) (restSlot c W) s : sProp 𝕄) := by
  unfold Ring.free; rw [cellP_eq]
  iintro ⟨Hq, ⟨%f, Hs⟩, Hw⟩
  isplitl [Hq]; · iexact Hq
  iexists f; isplitl [Hs]; · iexact Hs
  iexact Hw

/-- and a free slot is those three. -/
theorem free_out (s : Fin 4) : (Ring.free (cellP c) (restSlot c W) s : sProp 𝕄)
    ⊢ iprop(semVal ((c : Thread nD τ), ownCells s) 0 ∗ (∃ f, slotP (F := F) c s f) ∗ tableP c W s) := by
  unfold Ring.free; rw [cellP_eq]
  iintro ⟨Hq, ⟨%f, Hs, Hw⟩⟩
  isplitl [Hq]; · iexact Hq
  isplitl [Hs]; · iexists f; iexact Hs
  iexact Hw

end Ring

/-- The scratch, the counters and the table, as the launch lends them, are the ring before its first wait, -/
theorem ring_in (c : Dev nD) (W : BufOf (F := F) c tableM) :
    iprop((∃ d, owns (c : Thread nD τ) slotsM fullShare d) ∗ cellsZero c ∗ wholeAt c tableM W) ⊢ ringAt c W 0 := by
  unfold ringAt; rw [if_pos rfl]; unfold Ring.At₀
  rw [Ring.bigSep_fin4 (Ring.free (cellP c) (restSlot c W))]
  iintro ⟨HS, ⟨H0, H1, H2, H3⟩, HW⟩
  iapply Ring.with_homes₀
  ihave HS' := (slots_split (F := F) c) $$ HS
  icases HS' with ⟨HS0, HS1, HS2, HS3⟩
  ihave HW' := (table_shares (F := F) c W).1 $$ HW
  icases HW' with ⟨HW0, HW1, HW2, HW3⟩
  isplitl [H0 HS0 HW0]
  · iapply (free_in c W 0); isplitl [H0]; · iexact H0
    isplitl [HS0]; · iexact HS0
    iexact HW0
  isplitl [H1 HS1 HW1]
  · iapply (free_in c W 1); isplitl [H1]; · iexact H1
    isplitl [HS1]; · iexact HS1
    iexact HW1
  isplitl [H2 HS2 HW2]
  · iapply (free_in c W 2); isplitl [H2]; · iexact H2
    isplitl [HS2]; · iexact HS2
    iexact HW2
  iapply (free_in c W 3); isplitl [H3]; · iexact H3
  isplitl [HS3]; · iexact HS3
  iexact HW3

/-- and the ring after its last wait is those pieces again. -/
theorem ring_out (c : Dev nD) (W : BufOf (F := F) c tableM) :
    ringAt c W 4 ⊢ iprop((∃ d, owns (c : Thread nD τ) slotsM fullShare d) ∗ cellsZero c ∗ wholeAt c tableM W) := by
  unfold ringAt; rw [if_neg (by decide)]
  iintro H
  ihave H' := (Ring.free4_of_At_last _ _ _ _) $$ H
  icases H' with ⟨-, F0, F1, F2, F3⟩
  ihave F0 := (free_out c W 0) $$ F0
  ihave F1 := (free_out c W 1) $$ F1
  ihave F2 := (free_out c W 2) $$ F2
  ihave F3 := (free_out c W 3) $$ F3
  icases F0 with ⟨H0, HS0, HW0⟩
  icases F1 with ⟨H1, HS1, HW1⟩
  icases F2 with ⟨H2, HS2, HW2⟩
  icases F3 with ⟨H3, HS3, HW3⟩
  isplitl [HS0 HS1 HS2 HS3]
  · iapply (slots_join (F := F) c); isplitl [HS0]; · iexact HS0
    isplitl [HS1]; · iexact HS1
    isplitl [HS2]; · iexact HS2
    iexact HS3
  isplitl [H0 H1 H2 H3]
  · isplitl [H0]; · iexact H0
    isplitl [H1]; · iexact H1
    isplitl [H2]; · iexact H2
    iexact H3
  iapply (table_shares (F := F) c W).2; isplitl [HW0]; · iexact HW0
  isplitl [HW1]; · iexact HW1
  isplitl [HW2]; · iexact HW2
  iexact HW3

end Cert.Kernel.Hand

end
-- ==== Proof.BodyRuns.lean ====
/- What one call of the kernel's body leaves: its triple at each kind of grid point, with the values named. A point either
   starts the four transfers and computes the first block (point 0), or waits for a block and computes it (points 4, 8, 12),
   or only copies the block already computed (every other point). -/
module

public import proofs.«01_k».proof.Proof.RingSetup
public import Idealize.ShloMosaic.Lib.VecWindow
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-! ## The values -/

/-- Block `b` of the table `W`: its rows `512 * b` to `512 * b + 511`. -/
def tblk {c : Dev nD} (W : BufOf (F := F) c tableM) (b : Fin 4) : Vec F S512x2048 .f32 := (blockM b).view.read (Elt F) W

/-- The kernel's layer norm of block `b` of the table `W`, with the scale row `x0` and the shift row `x1`. -/
def yblk {c : Dev nD} (W : BufOf (F := F) c tableM) (x0 x1 : Vec F S1x2048 .f32) (b : Fin 4) : Vec F S512x2048 .f32 :=
  k0_pay1 (k0_pay5 (tblk W b)) x0 x1

/-- The load of a slot of the scratch, right after block `b` landed in it whole, reads that block (under a leading axis of one). -/
theorem slot_load {c : Dev nD} (W : BufOf (F := F) c tableM) (s b : Fin 4) {off : Fin 3 → ℕ} (ho : off = ![s.val, 0, 0])
    (inb : ∀ a, off a + S1x512x2048.size a ≤ S4x512x2048.size a) :
    slotsM.view.readAt (Elt F) (Rect.unit (s := S4x512x2048) off S1x512x2048.size inb).toLoadRect
      ((slotM s).view.writes (Elt F) (slotM s).view.junk [⟨Rect.whole S512x2048, ReadAs.same.apply ((blockM b).view.read (Elt F) W)⟩])
      = k0_pay5 (tblk W b) := by
  subst ho
  have h := Memref.read_squeeze_slice (Val := Elt F) slotsM (Rect.unit (s := S4x512x2048) ![s.val, 0, 0] S1x512x2048.size inb) (fun _ => rfl)
    squeezes_S1x512x2048_S512x2048 shapeCasts_S1x512x2048_S512x2048
    ((slotM s).view.writes (Elt F) (slotM s).view.junk [⟨Rect.whole S512x2048, ReadAs.same.apply ((blockM b).view.read (Elt F) W)⟩])
  have h' : (slotM s).view.read (Elt F)
      ((slotM s).view.writes (Elt F) (slotM s).view.junk [⟨Rect.whole S512x2048, ReadAs.same.apply ((blockM b).view.read (Elt F) W)⟩]) = tblk W b :=
    View.read_writes_full (Val := Elt F) (slotM s).view _ (off := fun _ => 0) (fun a => by simp) _ []
  unfold k0_pay5
  rw [← h', show (slotM s).view.read (Elt F) _ = shapeCast S512x2048 _ shapeCasts_S1x512x2048_S512x2048 from h]
  exact (shapeCast_shapeCast _ _ _).symm

/-- What a call leaves in the output window: the block it stored in the second scratch, reloaded and stored whole. -/
theorem out_read {arg5 : Memref sig .tc .vmem S1x512x2048 .f32} {arg7 : Memref sig .tc .vmem S512x2048 .f32} (f : arg5.view.ty.Contents (Elt F))
    {o o' : Fin 2 → ℕ} {o3 : Fin 3 → ℕ} (i i') (i3) (y y' : Vec F S512x2048 .f32) (h : y = y') :
    arg5.view.read (Elt F) (arg5.view.writes (Elt F) f [⟨Rect.unit (s := S1x512x2048) o3 S1x512x2048.size i3,
      k0_pay5 (arg7.view.readCov [⟨Rect.unit (s := S512x2048) o S512x2048.size i, y⟩] (Rect.unit (s := S512x2048) o' S512x2048.size i').toLoadRect)⟩])
      = k0_pay5 y' := by
  rw [View.read_writes_full, View.readCov_full, h]

/-- A block computed from a slot just landed and from the two rows held whole is `yblk` of the landed block. -/
theorem pay_eq {c : Dev nD} (W : BufOf (F := F) c tableM) (x0 x1 : Vec F S1x2048 .f32) {s b b' : Fin 4} (hb : b = b')
    {arg3 arg4 : Memref sig .tc .vmem S1x2048 .f32} (h3 : arg3.IsWhole) (h4 : arg4.IsWhole)
    {o3 : Fin 3 → ℕ} (ho3 : o3 = ![s.val, 0, 0]) (i3) {o o' : Fin 2 → ℕ} (i i')
    (pay : Vec F S1x512x2048 .f32 → Vec F S1x2048 .f32 → Vec F S1x2048 .f32 → FVec F S512x2048 .f32) (hp : pay = k0_pay1) :
    pay (slotsM.view.readAt (Elt F) (Rect.unit (s := S4x512x2048) o3 S1x512x2048.size i3).toLoadRect
        ((slotM s).view.writes (Elt F) (slotM s).view.junk [⟨Rect.whole S512x2048, ReadAs.same.apply ((blockM b).view.read (Elt F) W)⟩]))
      (arg3.view.readAt (Elt F) (Rect.unit (s := S1x2048) o S1x2048.size i).toLoadRect (h3.unread x0))
      (arg4.view.readAt (Elt F) (Rect.unit (s := S1x2048) o' S1x2048.size i').toLoadRect (h4.unread x1)) = yblk W x0 x1 b' := by
  subst hp hb
  rw [slot_load W s b ho3, View.readAt_full, View.readAt_full, h3.read_unread, h4.read_unread]; rfl

set_option maxHeartbeats 1000000 in
/-- A point that waits for its block (4, 8 and 12): the body takes the flight of block `k = ringStep t` into slot `k`, stores the block's layer
    norm in the second scratch and copies it to the output window; the slot and its cell come back free. -/
theorem run_wait (c : Dev nD) (t : Fin cfg0.N) (arg3 : Memref sig .tc .vmem S1x2048 .f32) (harg3 : arg3.IsWhole) (arg4 : Memref sig .tc .vmem S1x2048 .f32) (harg4 : arg4.IsWhole)
    (arg5 : Memref sig .tc .vmem S1x512x2048 .f32) (harg5 : arg5.IsWhole) (arg7 : Memref sig .tc .vmem S512x2048 .f32) (harg7 : arg7.IsWhole)
    (ht : t.val = 4 ∨ t.val = 8 ∨ t.val = 12)
    (x0 x1 : Vec F S1x2048 .f32) (W : BufOf (F := F) c tableM) (O : Waits sig Unit) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg7 fullShare d)
        ∗ Ring.inflight (fillSlot c W) (Ring.sl 4 (steps t.val)) (Ring.bk 4 (steps t.val)) ∗ owes (c : Thread nD τ) 0 O
        ∗ (iprop(owns (c : Thread nD τ) arg3 fullShare x0 ∗ owns (c : Thread nD τ) arg4 fullShare x1
            ∗ owns (c : Thread nD τ) arg5 fullShare (k0_pay5 (yblk W x0 x1 (Ring.bk 4 (steps t.val)))) ∗ owns (c : Thread nD τ) arg7 fullShare (yblk W x0 x1 (Ring.bk 4 (steps t.val)))
            ∗ Ring.free (cellP c) (restSlot c W) (Ring.sl 4 (steps t.val)) ∗ (∃ O', owes (c : Thread nD τ) 0 O')) -∗ K ⟨⟩))
      ⊢ wp frame (wpE (defs₀ (F := F)) Variants.none c none) Set.univ (cc0__ln_kernel (grid0.coords t) (Memref.whole main_arg1) (Memref.isWhole_whole _) arg3 harg3 arg4 harg4 arg5 harg5 slotsM (Memref.isWhole_whole _) arg7 harg7 cc0_scratch2) K := by
  have hc0 : ¬branch 0 (grid0.coords t) := fun h => by have := (branch_iff 0 (by decide) t).mp h; omega
  haveI := Fact.mk hc0
  simp only [cc0__ln_kernel_eq_skeleton]; unfold cc0__ln_kernel_skel
  unfold owns Ring.free Ring.inflight
  iintro ⟨⟨%f0, %hf0, H0⟩, ⟨%f1, %hf1, H1⟩, ⟨%d2, %f2, -, H2⟩, ⟨%ds1, %fs1, -, HS1⟩, ⟨%ff, Hf, Hrf⟩, HW, Hk⟩
  obtain rfl := harg3.eq_unread hf0; obtain rfl := harg4.eq_unread hf1
  rcases ht with ht | ht | ht
  on_goal 1 =>
    have hs : Ring.sl 4 (steps t.val) = 1 := by rw [show steps t.val = (t.val + 3) / 4 from rfl, ht]; rfl
    have hc1 : branch 1 (grid0.coords t) := (branch_iff 1 (by decide) t).mpr (by omega)
    have hc2 : ¬branch 2 (grid0.coords t) := fun h => by have := (branch_iff 2 (by decide) t).mp h; omega
    have hc3 : ¬branch 3 (grid0.coords t) := fun h => by have := (branch_iff 3 (by decide) t).mp h; omega
    have hcanon0 := slot_spell inb_S4x512x2048_S1x512x2048_1_0_0 (Ring.sl 4 (steps t.val)) (by rw [hs]; rfl)
    have hcanon1 := cell_spell inb_S4_S1_1 (Ring.sl 4 (steps t.val)) (by rw [hs]; rfl)
    have hslot0 := load_sub inb_S4x512x2048_S1x512x2048_1_0_0 (Ring.sl 4 (steps t.val)) (by rw [hs]; rfl)
  on_goal 2 =>
    have hs : Ring.sl 4 (steps t.val) = 2 := by rw [show steps t.val = (t.val + 3) / 4 from rfl, ht]; rfl
    have hc1 : ¬branch 1 (grid0.coords t) := fun h => by have := (branch_iff 1 (by decide) t).mp h; omega
    have hc2 : branch 2 (grid0.coords t) := (branch_iff 2 (by decide) t).mpr (by omega)
    have hc3 : ¬branch 3 (grid0.coords t) := fun h => by have := (branch_iff 3 (by decide) t).mp h; omega
    have hcanon0 := slot_spell inb_S4x512x2048_S1x512x2048_2_0_0 (Ring.sl 4 (steps t.val)) (by rw [hs]; rfl)
    have hcanon1 := cell_spell inb_S4_S1_2 (Ring.sl 4 (steps t.val)) (by rw [hs]; rfl)
    have hslot0 := load_sub inb_S4x512x2048_S1x512x2048_2_0_0 (Ring.sl 4 (steps t.val)) (by rw [hs]; rfl)
  on_goal 3 =>
    have hs : Ring.sl 4 (steps t.val) = 3 := by rw [show steps t.val = (t.val + 3) / 4 from rfl, ht]; rfl
    have hc1 : ¬branch 1 (grid0.coords t) := fun h => by have := (branch_iff 1 (by decide) t).mp h; omega
    have hc2 : ¬branch 2 (grid0.coords t) := fun h => by have := (branch_iff 2 (by decide) t).mp h; omega
    have hc3 : branch 3 (grid0.coords t) := (branch_iff 3 (by decide) t).mpr (by omega)
    have hcanon0 := slot_spell inb_S4x512x2048_S1x512x2048_3_0_0 (Ring.sl 4 (steps t.val)) (by rw [hs]; rfl)
    have hcanon1 := cell_spell inb_S4_S1_3 (Ring.sl 4 (steps t.val)) (by rw [hs]; rfl)
    have hslot0 := load_sub inb_S4x512x2048_S1x512x2048_3_0_0 (Ring.sl 4 (steps t.val)) (by rw [hs]; rfl)
  all_goals
    haveI := Fact.mk hc1
    haveI := Fact.mk hc2
    haveI := Fact.mk hc3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact out_read _ _ _ _ _ _ (pay_eq W x0 x1 rfl harg3 harg4 (by rw [show steps t.val = (t.val + 3) / 4 from rfl, ht]; rfl) _ _ _ _ rfl)
    isplitl [HS1]
    · iexists _; isplitr; swap; · iexact HS1
      ipureintro; exact (View.read_writes_full _ _ _ _ _).trans (pay_eq W x0 x1 rfl harg3 harg4 (by rw [show steps t.val = (t.val + 3) / 4 from rfl, ht]; rfl) _ _ _ _ rfl)
    isplitl [Hf Hf_dst Hf_src Hrf]
    · isplitl [Hf]; · iexact Hf
      iexists _; isplitl [Hf_dst]; · iexact Hf_dst
      iapply (table_split c W (Ring.sl 4 (steps t.val)) (Ring.bk 4 (steps t.val))).2; isplitl [Hf_src]; · iexact Hf_src
      iexact Hrf
    iexists _; iexact HW

set_option maxHeartbeats 1000000 in
/-- The first point: the body starts the transfers of all four blocks, waits for block 0, stores its layer norm in the second scratch and copies it
    to the output window; slot 0 comes back free and the other three blocks stay in flight. -/
theorem run_first (c : Dev nD) (t : Fin cfg0.N) (arg3 : Memref sig .tc .vmem S1x2048 .f32) (harg3 : arg3.IsWhole) (arg4 : Memref sig .tc .vmem S1x2048 .f32) (harg4 : arg4.IsWhole)
    (arg5 : Memref sig .tc .vmem S1x512x2048 .f32) (harg5 : arg5.IsWhole) (arg7 : Memref sig .tc .vmem S512x2048 .f32) (harg7 : arg7.IsWhole)
    (ht : t.val = 0)
    (x0 x1 : Vec F S1x2048 .f32) (W : BufOf (F := F) c tableM) (O : Waits sig Unit) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg7 fullShare d)
        ∗ Ring.free (cellP c) (restSlot c W) (Ring.sl 4 (steps t.val)) ∗ Ring.free (cellP c) (restSlot c W) (Ring.sl 4 (steps t.val + 1))
        ∗ Ring.free (cellP c) (restSlot c W) (Ring.sl 4 (steps t.val + 2)) ∗ Ring.free (cellP c) (restSlot c W) (Ring.sl 4 (steps t.val + 3)) ∗ owes (c : Thread nD τ) 0 O
        ∗ (iprop(owns (c : Thread nD τ) arg3 fullShare x0 ∗ owns (c : Thread nD τ) arg4 fullShare x1
            ∗ owns (c : Thread nD τ) arg5 fullShare (k0_pay5 (yblk W x0 x1 0)) ∗ owns (c : Thread nD τ) arg7 fullShare (yblk W x0 x1 0)
            ∗ Ring.inflight (fillSlot c W) (Ring.sl 4 (steps t.val + 1)) (Ring.bk 4 (steps t.val + 1)) ∗ Ring.inflight (fillSlot c W) (Ring.sl 4 (steps t.val + 2)) (Ring.bk 4 (steps t.val + 2))
            ∗ Ring.inflight (fillSlot c W) (Ring.sl 4 (steps t.val + 3)) (Ring.bk 4 (steps t.val + 3))
            ∗ Ring.free (cellP c) (restSlot c W) (Ring.sl 4 (steps t.val)) ∗ (∃ O', owes (c : Thread nD τ) 0 O')) -∗ K ⟨⟩))
      ⊢ wp frame (wpE (defs₀ (F := F)) Variants.none c none) Set.univ (cc0__ln_kernel (grid0.coords t) (Memref.whole main_arg1) (Memref.isWhole_whole _) arg3 harg3 arg4 harg4 arg5 harg5 slotsM (Memref.isWhole_whole _) arg7 harg7 cc0_scratch2) K := by
  have hc0 : branch 0 (grid0.coords t) := (branch_iff 0 (by decide) t).mpr (by omega)
  have hc1 : ¬branch 1 (grid0.coords t) := fun h => by have := (branch_iff 1 (by decide) t).mp h; omega
  have hc2 : ¬branch 2 (grid0.coords t) := fun h => by have := (branch_iff 2 (by decide) t).mp h; omega
  have hc3 : ¬branch 3 (grid0.coords t) := fun h => by have := (branch_iff 3 (by decide) t).mp h; omega
  haveI := Fact.mk hc0
  haveI := Fact.mk hc1
  haveI := Fact.mk hc2
  haveI := Fact.mk hc3
  have hs : steps t.val = 0 := by rw [show steps t.val = (t.val + 3) / 4 from rfl, ht]
  simp only [cc0__ln_kernel_eq_skeleton]; unfold cc0__ln_kernel_skel
  have hcanon0 := slot_spell inb_S4x512x2048_S1x512x2048_0_0_0 (Ring.sl 4 (steps t.val)) (by rw [hs]; rfl)
  have hcanon1 := cell_spell inb_S4_S1_0 (Ring.sl 4 (steps t.val)) (by rw [hs]; rfl)
  have hcanon2 := block_spell inb_S4096x2048_S512x2048_0_0 (Ring.bk 4 (steps t.val)) (by rw [hs]; rfl)
  have hcanon3 := slot_spell inb_S4x512x2048_S1x512x2048_1_0_0 (Ring.sl 4 (steps t.val + 1)) (by rw [hs]; rfl)
  have hcanon4 := cell_spell inb_S4_S1_1 (Ring.sl 4 (steps t.val + 1)) (by rw [hs]; rfl)
  have hcanon5 := block_spell inb_S4096x2048_S512x2048_512_0 (Ring.bk 4 (steps t.val + 1)) (by rw [hs]; rfl)
  have hcanon6 := slot_spell inb_S4x512x2048_S1x512x2048_2_0_0 (Ring.sl 4 (steps t.val + 2)) (by rw [hs]; rfl)
  have hcanon7 := cell_spell inb_S4_S1_2 (Ring.sl 4 (steps t.val + 2)) (by rw [hs]; rfl)
  have hcanon8 := block_spell inb_S4096x2048_S512x2048_1024_0 (Ring.bk 4 (steps t.val + 2)) (by rw [hs]; rfl)
  have hcanon9 := slot_spell inb_S4x512x2048_S1x512x2048_3_0_0 (Ring.sl 4 (steps t.val + 3)) (by rw [hs]; rfl)
  have hcanon10 := cell_spell inb_S4_S1_3 (Ring.sl 4 (steps t.val + 3)) (by rw [hs]; rfl)
  have hcanon11 := block_spell inb_S4096x2048_S512x2048_1536_0 (Ring.bk 4 (steps t.val + 3)) (by rw [hs]; rfl)
  have hslot0 := load_sub inb_S4x512x2048_S1x512x2048_0_0_0 (Ring.sl 4 (steps t.val)) (by rw [hs]; rfl)
  have hk : Ring.bk 4 (steps t.val) = 0 := by rw [show steps t.val = (t.val + 3) / 4 from rfl, ht]; rfl
  unfold owns Ring.free Ring.inflight
  iintro ⟨⟨%f0, %hf0, H0⟩, ⟨%f1, %hf1, H1⟩, ⟨%d2, %f2, -, H2⟩, ⟨%ds1, %fs1, -, HS1⟩, ⟨Hq0, ⟨%fq0, Hs0, Hw0⟩⟩, ⟨Hq1, ⟨%fq1, Hs1, Hw1⟩⟩, ⟨Hq2, ⟨%fq2, Hs2, Hw2⟩⟩, ⟨Hq3, ⟨%fq3, Hs3, Hw3⟩⟩, HW, Hk⟩
  ihave Hp0 := (table_split c W (Ring.sl 4 (steps t.val)) (Ring.bk 4 (steps t.val))).1 $$ Hw0
  icases Hp0 with ⟨Hh0, Hr0⟩
  ihave Hp1 := (table_split c W (Ring.sl 4 (steps t.val + 1)) (Ring.bk 4 (steps t.val + 1))).1 $$ Hw1
  icases Hp1 with ⟨Hh1, Hr1⟩
  ihave Hp2 := (table_split c W (Ring.sl 4 (steps t.val + 2)) (Ring.bk 4 (steps t.val + 2))).1 $$ Hw2
  icases Hp2 with ⟨Hh2, Hr2⟩
  ihave Hp3 := (table_split c W (Ring.sl 4 (steps t.val + 3)) (Ring.bk 4 (steps t.val + 3))).1 $$ Hw3
  icases Hp3 with ⟨Hh3, Hr3⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; exact out_read _ _ _ _ _ _ (pay_eq W x0 x1 hk harg3 harg4 (by rw [show steps t.val = (t.val + 3) / 4 from rfl, ht]; rfl) _ _ _ _ rfl)
  isplitl [HS1]
  · iexists _; isplitr; swap; · iexact HS1
    ipureintro; exact (View.read_writes_full _ _ _ _ _).trans (pay_eq W x0 x1 hk harg3 harg4 (by rw [show steps t.val = (t.val + 3) / 4 from rfl, ht]; rfl) _ _ _ _ rfl)
  isplitl [Hq1 Hr1]
  · iexists _; isplitl [Hq1]; · iexact Hq1
    iexact Hr1
  isplitl [Hq2 Hr2]
  · iexists _; isplitl [Hq2]; · iexact Hq2
    iexact Hr2
  isplitl [Hq3 Hr3]
  · iexists _; isplitl [Hq3]; · iexact Hq3
    iexact Hr3
  isplitl [Hq0 Hs0 Hh0 Hr0]
  · isplitl [Hq0]; · iexact Hq0
    iexists _; isplitl [Hs0]; · iexact Hs0
    iapply (table_split c W (Ring.sl 4 (steps t.val)) (Ring.bk 4 (steps t.val))).2; isplitl [Hh0]; · iexact Hh0
    iexact Hr0
  iexists _; iexact HW

set_option maxHeartbeats 1000000 in
/-- Every other point: the body copies the second scratch, left as it was, to the output window. -/
theorem run_copy (c : Dev nD) (t : Fin cfg0.N) (arg3 : Memref sig .tc .vmem S1x2048 .f32) (harg3 : arg3.IsWhole) (arg4 : Memref sig .tc .vmem S1x2048 .f32) (harg4 : arg4.IsWhole)
    (arg5 : Memref sig .tc .vmem S1x512x2048 .f32) (harg5 : arg5.IsWhole) (arg7 : Memref sig .tc .vmem S512x2048 .f32) (harg7 : arg7.IsWhole)
    (ht : t.val ≠ 0 ∧ t.val ≠ 4 ∧ t.val ≠ 8 ∧ t.val ≠ 12)
    (y : Vec F S512x2048 .f32) (O : Waits sig Unit) (K : PUnit → sProp 𝕄) :
    iprop((∃ d, owns (c : Thread nD τ) arg5 fullShare d) ∗ owns (c : Thread nD τ) arg7 fullShare y ∗ owes (c : Thread nD τ) 0 O
        ∗ (iprop(owns (c : Thread nD τ) arg5 fullShare (k0_pay5 y) ∗ owns (c : Thread nD τ) arg7 fullShare y ∗ (∃ O', owes (c : Thread nD τ) 0 O')) -∗ K ⟨⟩))
      ⊢ wp frame (wpE (defs₀ (F := F)) Variants.none c none) Set.univ (cc0__ln_kernel (grid0.coords t) (Memref.whole main_arg1) (Memref.isWhole_whole _) arg3 harg3 arg4 harg4 arg5 harg5 slotsM (Memref.isWhole_whole _) arg7 harg7 cc0_scratch2) K := by
  have hc0 : ¬branch 0 (grid0.coords t) := fun h => by have := (branch_iff 0 (by decide) t).mp h; omega
  have hc1 : ¬branch 1 (grid0.coords t) := fun h => by have := (branch_iff 1 (by decide) t).mp h; omega
  have hc2 : ¬branch 2 (grid0.coords t) := fun h => by have := (branch_iff 2 (by decide) t).mp h; omega
  have hc3 : ¬branch 3 (grid0.coords t) := fun h => by have := (branch_iff 3 (by decide) t).mp h; omega
  haveI := Fact.mk hc0
  haveI := Fact.mk hc1
  haveI := Fact.mk hc2
  haveI := Fact.mk hc3
  simp only [cc0__ln_kernel_eq_skeleton]; unfold cc0__ln_kernel_skel
  unfold owns
  iintro ⟨⟨%d2, %f2, -, H2⟩, ⟨%fs1, %hfs1, HS1⟩, HW, Hk⟩
  obtain rfl := harg7.eq_unread hfs1
  sl_exec (disch := first | sl_exact hc0 | sl_exact hc1 | sl_exact hc2 | sl_exact hc3)
  sl_step
  iapply Hk
  isplitl [H2]
  · iexists _; isplitr; swap; · iexact H2
    ipureintro
    exact (View.read_writes_full _ _ _ _ _).trans (congrArg k0_pay5 ((View.readAt_full _ _ _).trans (harg7.read_unread y)))
  isplitl [HS1]
  · iexists _; isplitr; swap; · iexact HS1
    ipureintro; exact harg7.read_unread y
  iexists _; iexact HW

end Cert.Kernel.Hand

end
-- ==== Proof.ValueRun.lean ====
/- The kernel's run with its values: from any memory with zero counters, every execution ends with the output array holding the layer norm of
   the table's rows under every batch index, the other arrays of the machine as the launch found them, and every counter at zero. -/
module

public import proofs.«01_k».proof.Proof.BodyRuns
public import Idealize.ShloMosaic.Lib.Pipeline.ValueKit.Geometry
public import Idealize.ShloMosaic.Lib.ValueIdx

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The scale row as the launch finds it in its array. -/
def grow (c : Dev nD) : Vec F S1x2048 .f32 := fun i => V m c main_call0_v0 i
/-- The shift row as the launch finds it in its array. -/
def brow (c : Dev nD) : Vec F S1x2048 .f32 := fun i => V m c main_call0_v1 i

/-- The scale window's block is the whole scale row at every point. -/
theorem iblk_scale (c : Dev nD) (t : Fin cfg0.N) : iblk m c 0 t = grow m c := by
  funext j
  refine congrArg (V m c main_call0_v0) (?_ : ((cfg0.win 0).blk t).view.emb j = j)
  funext a; apply Fin.ext
  match a with
  | ⟨0, _⟩ => show 0 * 1 + 1 * (j 0).val = (j 0).val; omega
  | ⟨1, _⟩ => show 0 * 2048 + 1 * (j 1).val = (j 1).val; omega
/-- The shift window's block is the whole shift row at every point. -/
theorem iblk_shift (c : Dev nD) (t : Fin cfg0.N) : iblk m c 1 t = brow m c := by
  funext j
  refine congrArg (V m c main_call0_v1) (?_ : ((cfg0.win 1).blk t).view.emb j = j)
  funext a; apply Fin.ext
  match a with
  | ⟨0, _⟩ => show 0 * 1 + 1 * (j 0).val = (j 0).val; omega
  | ⟨1, _⟩ => show 0 * 2048 + 1 * (j 1).val = (j 1).val; omega

/-- What the second scratch holds after `k` waits (`k ≥ 1`): the layer norm of the block waited last. -/
def ycur (c : Dev nD) (k : ℕ) : Vec F S512x2048 .f32 := yblk (V m c main_arg1) (grow m c) (brow m c) (Ring.bk 4 (k - 1))

/-- The second scratch after `k` waits: anything before the first, then the block `ycur`. -/
def scrAt (c : Dev nD) (k : ℕ) : sProp 𝕄 :=
  if k = 0 then iprop(∃ d, owns (c : Thread nD τ) rowsM fullShare d) else iprop(owns (c : Thread nD τ) rowsM fullShare (ycur m c k))

/-- The second scratch at known contents is in particular at some contents. -/
theorem scrAt_some (c : Dev nD) (k : ℕ) : scrAt m c k ⊢ (iprop(∃ d, owns (c : Thread nD τ) rowsM fullShare d) : sProp 𝕄) := by
  unfold scrAt; split
  · exact .rfl
  · iintro H; iexists _; iexact H

/-- The invariant before point `n`: the second scratch by the waits so far, the generator register, and the ring of the four blocks. -/
def Inv (c : Dev nD) (n : ℕ) : sProp 𝕄 :=
  iprop(scrAt m c (steps n) ∗ (∃ r, prngReg c r) ∗ ringAt c (V m c main_arg1) (steps n))

/-- The proof data on core `c`: the arrays as the launch finds them, the two rows left in place, the output window at the block of the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay5 (ycur m c (steps (t.val + 1)))
  Φ t := Inv m c t.val
  q _ := fullShare
  owed _ := 0

theorem A_eq (c : Dev nD) (w : Fin cfg0.W) : (dats m 0 c).A w = V m c (Pipeline.arrRef spec0 w) := by dsimp only [dats]
theorem after_scale (c : Dev nD) (t : Fin cfg0.N) : (dats m 0 c).after 0 t = iblk m c 0 t := by dsimp only [dats]
theorem after_shift (c : Dev nD) (t : Fin cfg0.N) : (dats m 0 c).after 1 t = iblk m c 1 t := by dsimp only [dats]
/-- The output window after point `t`: the block waited last. -/
theorem after_out (c : Dev nD) (t : Fin cfg0.N) : (dats m 0 c).after 2 t = k0_pay5 (ycur m c (steps (t.val + 1))) := by dsimp only [dats]
theorem before_scale (c : Dev nD) (t : Fin cfg0.N) (d) : (dats m 0 c).before 0 t d = grow m c :=
  (before_scale_of m (dats m 0 c) (A_eq m c 0) (after_scale m c) t d).trans (iblk_scale m c t)
theorem before_shift (c : Dev nD) (t : Fin cfg0.N) (d) : (dats m 0 c).before 1 t d = brow m c :=
  (before_shift_of m (dats m 0 c) (A_eq m c 1) (after_shift m c) t d).trans (iblk_shift m c t)

/-! ## The body obligation -/

/-- What the body is called with at point `t`, -/
def bodyPre (c : Dev nD) (t : Fin cfg0.N) : sProp 𝕄 :=
  iprop(Inv m c t.val ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))

/-- and what it returns. -/
def bodyPost (c : Dev nD) (t : Fin cfg0.N) : sProp 𝕄 :=
  iprop(Inv m c (t.val + 1) ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t))

set_option maxHeartbeats 2000000 in
/-- The body at any point: the first point starts the ring and computes block 0; a point at 4, 8 or 12 takes the ring one step and computes the next
    block; every other point copies the block already there. -/
theorem body_triple (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_scale, before_shift]
  rw [after_scale, after_shift, after_out, iblk_scale, iblk_shift]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  have hs : steps t.val = (t.val + 3) / 4 := rfl
  have hs' : steps (t.val + 1) = (t.val + 1 + 3) / 4 := rfl
  unfold Inv ringAt
  by_cases h0 : t.val = 0
  · have hk0 : steps t.val = 0 := by omega
    have hk1 : steps (t.val + 1) = steps t.val + 1 := by omega
    have hy : ycur m c (steps (t.val + 1)) = yblk (V m c main_arg1) (grow m c) (brow m c) 0 := by
      rw [hk1, hk0]; rfl
    rw [hy, hk1, if_pos hk0, if_neg (show ¬steps t.val + 1 = 0 by omega)]
    rw [Ring.At₀_eq4' _ _ _ (steps t.val) hk0 (by decide : 4 ≤ 4), Ring.At4_one' _ _ _ _ (steps t.val) hk0 (by decide : 4 ≤ 4)]
    iintro ⟨⟨HS1, Hg, ⟨-, Hf0, Hf1, Hf2, Hf3⟩⟩, ⟨%O, -, HW⟩, ⟨%d0, H0⟩, ⟨%d1, H1⟩, ⟨%d2, H2⟩⟩
    ihave HS1 := (scrAt_some m c (steps t.val)) $$ HS1
    iapply (run_first c t _ _ _ _ _ _ _ _ h0 (grow m c) (brow m c) (V m c main_arg1) O _)
    isplitl [H0]; · iexact H0
    isplitl [H1]; · iexact H1
    isplitl [H2]; · iexists _; iexact H2
    isplitl [HS1]; · iexact HS1
    isplitl [Hf0]; · iexact Hf0
    isplitl [Hf1]; · iexact Hf1
    isplitl [Hf2]; · iexact Hf2
    isplitl [Hf3]; · iexact Hf3
    isplitl [HW]; · iexact HW
    iintro ⟨H0, H1, H2, HS1, Hf1, Hf2, Hf3, Hf0, ⟨%O', HW⟩⟩
    isplitl [HS1 Hg Hf0 Hf1 Hf2 Hf3]
    · isplitl [HS1]
      · rw [← hk1, ← hy]; unfold scrAt; rw [if_neg (by omega)]; iexact HS1
      isplitl [Hg]; · iexact Hg
      iapply (Ring.with_homes (Idealize.SL.BI.Entails.refl _))
      isplitl [Hf1]; · iexact Hf1
      isplitl [Hf2]; · iexact Hf2
      isplitl [Hf3]; · iexact Hf3
      iexact Hf0
    isplitl [HW]
    · iexists O'; isplitr; · ipureintro; exact fun _ _ => Or.inl trivial
      iexact HW
    isplitl [H0]; · iexact H0
    isplitl [H1]; · iexact H1
    iexact H2
  by_cases hw : t.val = 4 ∨ t.val = 8 ∨ t.val = 12
  · have hk1 : steps (t.val + 1) = steps t.val + 1 := by omega
    have hlt : steps t.val < 4 := by omega
    have hy : ycur m c (steps (t.val + 1)) = yblk (V m c main_arg1) (grow m c) (brow m c) (Ring.bk 4 (steps t.val)) := by
      rw [hk1]; rfl
    rw [hy, hk1, if_neg (show ¬steps t.val = 0 by omega), if_neg (show ¬steps t.val + 1 = 0 by omega)]
    rw [Ring.At4_here_tail _ _ _ _ (steps t.val) hlt, Ring.At4_next_tail _ _ _ _ (steps t.val) (by omega) hlt, Ring.slotAt4_tail_role _ _ _ (steps t.val), Ring.slotAt4_tail_role1 _ _ _ (steps t.val)]
    iintro ⟨⟨HS1, Hg, ⟨-, Hf0, Hf1, Hf2, Hf3⟩⟩, ⟨%O, -, HW⟩, ⟨%d0, H0⟩, ⟨%d1, H1⟩, ⟨%d2, H2⟩⟩
    ihave HS1 := (scrAt_some m c (steps t.val)) $$ HS1
    iapply (run_wait c t _ _ _ _ _ _ _ _ hw (grow m c) (brow m c) (V m c main_arg1) O _)
    isplitl [H0]; · iexact H0
    isplitl [H1]; · iexact H1
    isplitl [H2]; · iexists _; iexact H2
    isplitl [HS1]; · iexact HS1
    isplitl [Hf0]; · iexact Hf0
    isplitl [HW]; · iexact HW
    iintro ⟨H0, H1, H2, HS1, Hf0, ⟨%O', HW⟩⟩
    isplitl [HS1 Hg Hf0 Hf1 Hf2 Hf3]
    · isplitl [HS1]
      · rw [← hk1, ← hy]; unfold scrAt; rw [if_neg (by omega)]; iexact HS1
      isplitl [Hg]; · iexact Hg
      iapply (Ring.with_homes (Idealize.SL.BI.Entails.refl _))
      isplitl [Hf1]; · iexact Hf1
      isplitl [Hf2]; · iexact Hf2
      isplitl [Hf3]; · iexact Hf3
      iexact Hf0
    isplitl [HW]
    · iexists O'; isplitr; · ipureintro; exact fun _ _ => Or.inl trivial
      iexact HW
    isplitl [H0]; · iexact H0
    isplitl [H1]; · iexact H1
    iexact H2
  · have hk1 : steps (t.val + 1) = steps t.val := by omega
    have hpos : ¬steps t.val = 0 := by omega
    rw [hk1]
    unfold scrAt
    rw [if_neg hpos]
    iintro ⟨⟨HS1, Hg, HR⟩, ⟨%O, -, HW⟩, ⟨%d0, H0⟩, ⟨%d1, H1⟩, ⟨%d2, H2⟩⟩
    iapply (run_copy c t _ (stage0_whole t) _ (stage1_whole t) _ _ _ _ (by omega) (ycur m c (steps t.val)) O _)
    isplitl [H2]; · iexists _; iexact H2
    isplitl [HS1]; · iexact HS1
    isplitl [HW]; · iexact HW
    iintro ⟨H2, HS1, ⟨%O', HW⟩⟩
    isplitl [HS1 Hg HR]
    · isplitl [HS1]; · iexact HS1
      isplitl [Hg]; · iexact Hg
      iexact HR
    isplitl [HW]
    · iexists O'; isplitr; · ipureintro; exact fun _ _ => Or.inl trivial
      iexact HW
    isplitl [H0]; · iexact H0
    isplitl [H1]; · iexact H1
    iexact H2

/-- The body table's row at point `t`'s slots is the kernel's body at that point. -/
theorem row_eq (t : Fin cfg0.N) : defs₀ (F := F) .tc cfg0.body (cfg0.bodyArgs t (cfg0.slots t)) = bodyAt0 t := by
  unfold defs₀; rw [Defs.onTc_tc]

/-- The obligation the launch asks of the body, at every point. -/
theorem obligation (c : Dev nD) : BodyObligation (dats (F := F) m 0 c) (defs₀ (F := F)) Variants.none () Set.univ := fun t => by
  rw [bigSep_W0, bigSep_W0, row_eq]
  exact triple_restated (body_triple m c t) rfl .rfl fun _ => .rfl

/-- What the launch hands over is the invariant before the first point, -/
theorem inv_in (c : Dev nD) : Pipeline.ΦD ownCells spec0 ownArrays (V m) c ⊢ (dats m 0 c).Φ 0 := by
  rw [lent_eq, show (dats m 0 c).Φ 0 = Inv m c 0 from rfl]
  unfold Inv scrAt
  rw [show steps 0 = 0 from rfl, if_pos rfl]
  iintro ⟨⟨HR, HS1⟩, Hg, Hq, Hh⟩
  isplitl [HS1]; · iexact HS1
  isplitl [Hg]; · iexact Hg
  iapply (ring_in (F := F) c (V m c main_arg1))
  isplitl [HR]; · iexact HR
  isplitl [Hq]; · iexact Hq
  iexact Hh

/-- and the invariant after the last point hands it back. -/
theorem inv_out (c : Dev nD) : (dats m 0 c).Φ (Fin.last cfg0.N) ⊢ Pipeline.ΦD ownCells spec0 ownArrays (V m) c := by
  rw [lent_eq, show (dats m 0 c).Φ (Fin.last cfg0.N) = Inv m c grid0.N from rfl]
  unfold Inv
  rw [show steps grid0.N = 4 by rw [N_0]; rfl]
  iintro ⟨HS1, Hg, HR⟩
  ihave HS1 := (scrAt_some m c 4) $$ HS1
  ihave HX := (ring_out (F := F) c (V m c main_arg1)) $$ HR
  icases HX with ⟨HR, Hq, Hh⟩
  isplitl [HR HS1]
  · isplitl [HR]; · iexact HR
    iexact HS1
  isplitl [Hg]; · iexact Hg
  isplitl [Hq]; · iexact Hq
  iexact Hh

/-! ## The launch -/

-- the launch theorem's implicit arguments are found by unifying its conclusion with this one
set_option backward.isDefEq.respectTransparency.types false in
/-- The launch: every execution ends with the pipeline's arrays at what the write-backs leave and every counter at zero. -/
theorem launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownCells defs₀ Variants.none ownCells_facts ownArrays ownArrays_sub m ρ main
    (hbody := fun c => (obligation m c).loose) (hshare := fun c => (dats m 0 c).share_full fun _ => rfl)
    (howed := fun _ _ => rfl) (V := V m) (hmain := main_prefix m Variants.none) (hA := A_eq m) (hin := inv_in m) (hout := inv_out m)

/-! ## The output array -/

/-- The output array: at batch index `b`, row `r` and column `d`, the layer norm of block `r / 512` at row `r % 512` and column `d`. -/
def outArr (c : Dev nD) : Vec F S4x2048x2048 .f32 := fun i =>
  yblk (V m c main_arg1) (grow m c) (brow m c) ⟨(i 1).val / 512, by have : (i 1).val < 2048 := (i 1).isLt; omega⟩
    (ix2 ⟨(i 1).val % 512, by omega⟩ (i 2))

/-- The block index of the output window at point `t`: batch index `t % 4`, row block `t / 4`. -/
theorem out_index : ∀ t : Fin cfg0.N, win0_2.index t = ![t.val % 4, t.val / 4, 0] := (by decide +kernel : ∀ t : Fin grid0.N, _)

/-- The write-backs leave the output array at `outArr`. -/
theorem final (c : Dev nD) : (dats m 0 c).arrAt 2 cfg0.N = outArr m c := by
  refine (dats m 0 c).arrAt_eq_of_covers 2 (outArr m c) (by decide +kernel) fun t hf y => ?_
  have hN : t.val < 16 := lt_of_lt_of_eq t.isLt (show cfg0.N = 16 from N_0)
  blk_simp
  rw [after_out]
  have e := out_index t
  have hy1 : (y 1).val < 512 := (y 1).isLt
  have i0 : (((win0_2.blk t).view.emb y) 1).val = t.val / 4 * 512 + (y 1).val := by blk_simp [e]
  have i2 : ((win0_2.blk t).view.emb y) 2 = y 2 := by apply Fin.ext; blk_simp [e]
  have hb : Ring.bk 4 (steps (t.val + 1) - 1) = ⟨(((win0_2.blk t).view.emb y) 1).val / 512, by omega⟩ := by
    apply Fin.ext
    show ((t.val + 1 + 3) / 4 - 1) % 4 = (((win0_2.blk t).view.emb y) 1).val / 512
    omega
  unfold outArr ycur
  rw [hb]
  unfold k0_pay5
  refine (shapeCast_addUnit_apply ![512, 2048] _ _ y).trans (congrArg _ ?_)
  apply Shape.idx_ext₂
  · show (y 1).val = (((win0_2.blk t).view.emb y) 1).val % 512
    omega
  · show (y 2).val = (((win0_2.blk t).view.emb y) 2).val
    rw [i2]

/-- The run: the output array at `outArr` of the arguments, and the arguments unchanged. -/
theorem run : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 2).trans (final m c),
      (h.1.rest_eq c main_arg0 (by decide)).trans (V_main_arg0 m c), (h.1.rest_eq c main_arg1 (by decide)).trans (V_main_arg1 m c),
      (h.1.rest_eq c main_arg2 (by decide)).trans (V_main_arg2 m c), (h.1.rest_eq c main_arg3 (by decide)).trans (V_main_arg3 m c)⟩)
    (launch m ρ)

/-- The run again, without the output: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
      ⟨(h.1.rest_eq c main_arg0 (by decide)).trans (V_main_arg0 m c), (h.1.rest_eq c main_arg1 (by decide)).trans (V_main_arg1 m c),
      (h.1.rest_eq c main_arg2 (by decide)).trans (V_main_arg2 m c), (h.1.rest_eq c main_arg3 (by decide)).trans (V_main_arg3 m c)⟩, h.2⟩)
    (launch m ρ)

end Cert.Kernel.Hand

end
-- ==== Proof.KernelValue.lean ====
/- The kernel's result read index by index, over the extended reals: at batch index `b`, position `s` and column `d`, the layer norm of
   row `s` of the table at column `d`. -/
module

public import proofs.«01_k».proof.Proof.RowNorm
public import proofs.«01_k».proof.Proof.ValueRun

@[expose] public section

noncomputable section

namespace Cert.Kernel.Hand

open Idealize.ShloMosaic Idealize.ShloMosaic.TcCoe Idealize.SL.Sem
open Cert.Kernel.Gen
open Idealize.ShloMosaic.ValueIdx
open scoped BigOperators

/-! ## One block's layer norm -/

/-- A block's row sums. -/
theorem rows_sum (v : FVec Ideal S512x2048 .f32) (r : Fin 512) :
    multiReduction .add [1] S512 v 0x00000000#32 reduces_S512x2048_S512 (.inl rfl) rfl (ix1 r) = ∑ k : Fin 2048, v (ix2 r k) := by
  refine (Ideal.multiReduction_add_single v _ reduces_S512x2048_S512 (.inl rfl) rfl (ix1 r)).trans ?_
  refine Finset.sum_congr rfl fun k _ => congrArg v ?_
  funext a
  match a with | ⟨0, _⟩ => rfl | ⟨1, _⟩ => rfl

/-- A number per row, kept as a column of extent one, reads the row's number. -/
theorem keep_apply (v : FVec Ideal S512 .f32) (r : Fin 512) (u : Fin 1) : shapeCast S512x1 v shapeCasts_S512_S512x1 (ix2 r u) = v (ix1 r) := by
  refine shapeCast_apply _ _ _ _ ?_
  rw [Shape.rowMajor_val_one, Shape.rowMajor_val_two]
  show r.val = r.val * 1 + u.val
  omega

/-- A column's broadcast along the rows reads its row. -/
theorem col_apply (v : FVec Ideal S512x1 .f32) (r : Fin 512) (d : Fin 2048) : broadcastTo S512x2048 v broadcasts_S512x1_S512x2048 (ix2 r d) = v (ix2 r (0 : Fin 1)) :=
  broadcastTo_apply _ _ _ _ fun a => match a with | ⟨0, _⟩ => rfl | ⟨1, _⟩ => rfl

/-- A row's broadcast down the columns reads its column. -/
theorem row_apply (v : FVec Ideal S1x2048 .f32) (r : Fin 512) (d : Fin 2048) : broadcastTo S512x2048 v broadcasts_S1x2048_S512x2048 (ix2 r d) = v (ix2 (0 : Fin 1) d) :=
  broadcastTo_apply _ _ _ _ fun a => match a with | ⟨0, _⟩ => rfl | ⟨1, _⟩ => rfl

/-- The mean of every row of a block. -/
def means (v : FVec Ideal S512x2048 .f32) : FVec Ideal S512x1 .f32 :=
  divf (shapeCast S512x1 (multiReduction .add [1] S512 v 0x00000000#32 reduces_S512x2048_S512 (.inl rfl) rfl) shapeCasts_S512_S512x1)
    (broadcast S512x1 (Scalar.ofBits .f32 0x45000000#32))

/-- Every row of a block less its mean. -/
def centred (v : FVec Ideal S512x2048 .f32) : FVec Ideal S512x2048 .f32 := subf v (broadcastTo S512x2048 (means v) broadcasts_S512x1_S512x2048)

/-- The variance of every row of a block. -/
def vars (v : FVec Ideal S512x2048 .f32) : FVec Ideal S512x1 .f32 :=
  divf (shapeCast S512x1 (multiReduction .add [1] S512 (mulf (centred v) (centred v)) 0x00000000#32 reduces_S512x2048_S512 (.inl rfl) rfl) shapeCasts_S512_S512x1)
    (broadcast S512x1 (Scalar.ofBits .f32 0x45000000#32))

/-- The layer norm of every row of a block, with scale row `g` and shift row `h`. -/
def normed (v : FVec Ideal S512x2048 .f32) (g h : FVec Ideal S1x2048 .f32) : FVec Ideal S512x2048 .f32 :=
  addf (mulf (mulf (centred v) (broadcastTo S512x2048 (rsqrt (addf (vars v) (broadcast S512x1 (Scalar.ofBits .f32 0x3727C5AC#32)))) broadcasts_S512x1_S512x2048))
    (broadcastTo S512x2048 g broadcasts_S1x2048_S512x2048)) (broadcastTo S512x2048 h broadcasts_S1x2048_S512x2048)

variable (v : FVec Ideal S512x2048 .f32) (g h : FVec Ideal S1x2048 .f32) (r : Fin 512) (d : Fin 2048)

/-- What the kernel computes from a block held under a leading axis of one is the block's layer norm. -/
theorem pay_norm : k0_pay1 (k0_pay5 v) g h = normed v g h := by
  have e : shapeCast S512x2048 (k0_pay5 v) shapeCasts_S1x512x2048_S512x2048 = v := by unfold k0_pay5; exact shapeCast_shapeCast _ _ _
  unfold k0_pay1
  simp only [e, shapeCast_self]
  rfl

/-- The mean of a row. -/
theorem means_apply (u : Fin 1) : means v (ix2 r u) = RowNorm.mean fun k => v (ix2 r k) := by
  unfold means
  rw [divf_apply, keep_apply, rows_sum]; rfl

/-- A row less its mean, at a column. -/
theorem centred_apply : centred v (ix2 r d) = v (ix2 r d) - RowNorm.mean fun k => v (ix2 r k) := by
  unfold centred
  rw [subf_apply, col_apply, means_apply]

/-- The variance of a row. -/
theorem vars_apply (u : Fin 1) : vars v (ix2 r u) = RowNorm.var fun k => v (ix2 r k) := by
  unfold vars
  rw [divf_apply, keep_apply, rows_sum]
  unfold RowNorm.var
  simp only [mulf_apply, centred_apply]; rfl

/-- The layer norm of a row, at a column. -/
theorem normed_apply : normed v g h (ix2 r d) = RowNorm.norm (fun k => v (ix2 r k)) (g (ix2 (0 : Fin 1) d)) (h (ix2 (0 : Fin 1) d)) d := by
  unfold normed
  rw [RowNorm.norm_eq_mul_rsqrt, addf_apply, mulf_apply, mulf_apply, row_apply, row_apply, col_apply, centred_apply]
  show _ * Ideal.rsqrt (vars v (ix2 r 0) + RowNorm.eps) * _ + _ = _
  rw [vars_apply]

/-! ## The blocks of the table, the scale row and the shift row -/

variable (m : (ℓ : Loc nD τ sig) → Buf (Elt Ideal) ℓ) (c : Dev nD)

/-- Row `r` of block `b` of the table is row `512 * b + r` of the table. -/
theorem tblk_apply (W : BufOf (F := Ideal) c tableM) (b : Fin 4) : tblk W b (ix2 r d) = W (ix2 (⟨512 * b.val + r.val, by omega⟩ : Fin 4096) d) := by
  refine congrArg W (?_ : (blockM b).view.emb (ix2 r d) = _)
  apply Shape.idx_ext₂
  · show 512 * b.val + 1 * r.val = 512 * b.val + r.val; omega
  · show 0 + 1 * d.val = d.val; omega

/-- A vector kept as one row reads the vector at the column. -/
theorem unit_row_apply (x : FVec Ideal S2048 .f32) : shapeCast S1x2048 x shapeCasts_S2048_S1x2048 (ix2 (0 : Fin 1) d) = x (ix1 d) := by
  refine shapeCast_apply _ _ _ _ ?_
  rw [Shape.rowMajor_val_one, Shape.rowMajor_val_two]
  show d.val = 0 * 2048 + d.val
  omega

/-- The scale row the region finds is the scale argument. -/
theorem grow_apply : grow m c (ix2 (0 : Fin 1) d) = m ((c.tc : Thread nD τ).loc main_arg2) (ix1 d) := by
  have e : V m c main_call0_v0 = shapeCast S1x2048 (m ((c.tc : Thread nD τ).loc main_arg2)) shapeCasts_S2048_S1x2048 := by
    unfold V
    simp only [hostOps0, StableHlo.TRef.reshape]
    after_results_simp
    rfl
  exact (congrFun e _).trans (unit_row_apply d _)

/-- The shift row the region finds is the shift argument. -/
theorem brow_apply : brow m c (ix2 (0 : Fin 1) d) = m ((c.tc : Thread nD τ).loc main_arg3) (ix1 d) := by
  have e : V m c main_call0_v1 = shapeCast S1x2048 (m ((c.tc : Thread nD τ).loc main_arg3)) shapeCasts_S2048_S1x2048 := by
    unfold V
    simp only [hostOps0, StableHlo.TRef.reshape]
    after_results_simp
    rfl
  exact (congrFun e _).trans (unit_row_apply d _)

/-! ## The result -/

/-- The kernel's result at batch index `b`, position `s` and column `d`: the layer norm of row `s` of the table at column `d`. -/
theorem outArr_apply (b : Fin 4) (s : Fin 2048) : outArr m c (ix3 b s d)
    = RowNorm.norm (fun k => m ((c.tc : Thread nD τ).loc main_arg1) (ix2 ⟨s.val, by omega⟩ k)) (m ((c.tc : Thread nD τ).loc main_arg2) (ix1 d))
        (m ((c.tc : Thread nD τ).loc main_arg3) (ix1 d)) d := by
  have hs := s.isLt
  show yblk (V m c main_arg1) (grow m c) (brow m c) ⟨s.val / 512, by omega⟩ (ix2 ⟨s.val % 512, by omega⟩ d) = _
  unfold yblk
  rw [pay_norm, normed_apply, grow_apply, brow_apply]
  have ht : ∀ k : Fin 2048, tblk (V m c main_arg1) ⟨s.val / 512, by omega⟩ (ix2 ⟨s.val % 512, by omega⟩ k)
      = m ((c.tc : Thread nD τ).loc main_arg1) (ix2 ⟨s.val, by omega⟩ k) := fun k => by
    rw [tblk_apply, V_main_arg1]
    exact congrArg _ (Shape.idx_ext₂ (show 512 * (s.val / 512) + s.val % 512 = s.val by omega) rfl)
  simp only [ht]

end Cert.Kernel.Hand

end
-- ==== Proof.RefValue.lean ====
/- The reference's result read index by index, over the extended reals: at batch index `b`, position `s` and column `d`, the layer norm of
   row `s` of the table at column `d`. -/
module

public import proofs.«01_k».proof.Proof.RowNorm
public import proofs.«01_k».proof.Proof.Gen.ReferenceIdeal.Run
public import Idealize.ShloMosaic.Lib.Pipeline.Value
public import Idealize.ShloMosaic.Lib.IdealHost
public import Idealize.ShloMosaic.PureOps.Reduce

@[expose] public section

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

/-! ## The positions looked up -/

/-- The position of each token: its place in the sequence. -/
def pos : IVec S4x2048 32 :=
  shapeCast _ (broadcastInDim S4x1x1x2048 ![0, 1, 2, 3] bcast_S1x1x1x2048_S4x1x1x2048_0_1_2_3
    (shapeCast _ (broadcastInDim S1x2048 ![1] bcast_S2048_S1x2048_1 (iotaInDim S2048 32 0)) shapeCasts_S1x2048_S1x1x1x2048)) shapeCasts_S4x1x1x2048_S4x2048

/-- The row of the table to take for each token: its position, a negative one counted from the end. -/
def ids : IVec S4x2048x1 32 :=
  broadcastInDim S4x2048x1 ![0, 1] bcast_S4x2048_S4x2048x1_0_1
    (select (cmpi .slt pos (broadcastInDim S4x2048 ![] bcast_S_S4x2048 (constantI S_ 32 0#32)))
      (addi pos (broadcastInDim S4x2048 ![] bcast_S_S4x2048 (constantI S_ 32 4096#32))) pos)

/-- Whether each row to take lies inside the table. -/
def inside : IVec S4x2048 1 :=
  Host.reduce IntOp.andi (andi (cmpi .sge ids (broadcastInDim S4x2048x1 ![] bcast_S_S4x2048x1 (constantI S_ 32 0#32)))
    (cmpi .sle ids (broadcastInDim S4x2048x1 ![0, 1, 2] bcast_S1x1x1_S4x2048x1_0_1_2 (broadcastInDim S1x1x1 ![2] bcast_S1_S1x1x1_2 (constantI S1 32 4095#32)))))
    (constantI S_ 1 1#1) reducesTo_S4x2048x1_S4x2048_d2 h_S_

/-- The rows taken from the table `W`. -/
def taken (W : FVec Ideal S4096x2048 .f32) : FVec Ideal S4x2048x2048 .f32 :=
  select (broadcastInDim S4x2048x2048 ![0, 1] bcast_S4x2048_S4x2048x2048_0_1 inside)
    (Host.gather gather_S4096x2048_S4x2048x1_S4x2048x2048_2_0_n_n_0_2_12048 W ids)
    (broadcastInDim S4x2048x2048 ![] bcast_S_S4x2048x2048 (constant S_ .f32 0x7FC00000#32))

/-- Each token's position is its place in the sequence. -/
theorem pos_apply (b : Fin 4) (s : Fin 2048) : pos (ix2 b s) = BitVec.ofNat 32 s.val := by
  unfold pos
  refine (shapeCast_apply _ _ _ (ix4 b (0 : Fin 1) (0 : Fin 1) s) ?_).trans ?_
  · rw [Shape.rowMajor_val_four, Shape.rowMajor_val_two]
    show ((b.val * 1 + 0) * 1 + 0) * 2048 + s.val = b.val * 2048 + s.val
    omega
  refine (broadcastInDim_apply _ _ _ _ (ix4 (0 : Fin 1) (0 : Fin 1) (0 : Fin 1) s) ?_).trans ?_
  · intro a; match a with | ⟨0, _⟩ => rfl | ⟨1, _⟩ => rfl | ⟨2, _⟩ => rfl | ⟨3, _⟩ => rfl
  refine (shapeCast_apply _ _ _ (ix2 (0 : Fin 1) s) ?_).trans ?_
  · rw [Shape.rowMajor_val_four, Shape.rowMajor_val_two]
    show 0 * 2048 + s.val = ((0 * 1 + 0) * 1 + 0) * 2048 + s.val
    omega
  refine (broadcastInDim_apply _ _ _ _ (ix1 s) ?_).trans ?_
  · intro a; match a with | ⟨0, _⟩ => rfl
  rfl

/-- A small word is not below zero as a signed number, so it reads the same signed and unsigned. -/
theorem toInt_small (s : Fin 2048) : (BitVec.ofNat 32 s.val).toInt = (s.val : ℤ) := by
  have := s.isLt
  rw [BitVec.toInt_eq_toNat_cond, BitVec.toNat_ofNat, Nat.mod_eq_of_lt (by omega), if_pos (by omega)]

/-- The row to take for the token at position `s` is row `s`. -/
theorem ids_apply (b : Fin 4) (s : Fin 2048) (u : Fin 1) : ids (ix3 b s u) = BitVec.ofNat 32 s.val := by
  unfold ids
  refine (broadcastInDim_apply _ _ _ _ (ix2 b s) ?_).trans ?_
  · intro a; match a with | ⟨0, _⟩ => rfl | ⟨1, _⟩ => rfl
  rw [select_apply]
  have hc : cmpi .slt pos (broadcastInDim S4x2048 ![] bcast_S_S4x2048 (constantI S_ 32 0#32)) (ix2 b s) = 0#1 := by
    show IntOp.cmpi .slt (pos (ix2 b s)) 0#32 = 0#1
    rw [pos_apply]
    have := toInt_small s
    simp only [IntOp.cmpi, BitVec.slt, this]
    rw [show (0#32 : BitVec 32).toInt = 0 from rfl, decide_eq_false (by omega)]; rfl
  rw [hc, select_zero, pos_apply]

/-- Reducing the last axis, of extent one, of the rows to take. -/
theorem reduces_ids : S4x2048x1.Reduces [2] S4x2048 := by decide
/-- Reducing the columns of the rows taken. -/
theorem reduces_cols : S4x2048x2048.Reduces [2] S4x2048 := by decide

/-- The conjunction over an axis of extent one is its one bit. -/
theorem fold_one (f : Fin 1 → BitVec 1) : (Finset.univ : Finset (Fin 1)).fold IntOp.andi 1#1 f = IntOp.andi (f 0) 1#1 := by
  rw [Finset.univ_unique, Finset.fold_singleton]; rfl

/-- Every row to take lies inside the table. -/
theorem inside_apply (j : S4x2048.Idx) : inside j = 1#1 := by
  unfold inside
  refine (Host.reduce_eq_fold_single IntOp.andi _ _ reducesTo_S4x2048x1_S4x2048_d2 reduces_ids h_S_ j).trans ?_
  refine (fold_one _).trans ?_
  have e : ids (reduces_ids.lift j (0 : Fin 1)) = BitVec.ofNat 32 (j 1).val := by
    rw [eq_ix3 (reduces_ids.lift j (0 : Fin 1))]
    exact ids_apply (j 0) (j 1) _
  show IntOp.andi (IntOp.andi (IntOp.cmpi .sge (ids (reduces_ids.lift j (0 : Fin 1))) 0#32)
    (IntOp.cmpi .sle (ids (reduces_ids.lift j (0 : Fin 1))) 4095#32)) 1#1 = 1#1
  have h1 : (j 1).val < 2048 := (j 1).isLt
  have h2 := toInt_small ⟨(j 1).val, h1⟩
  have hge : IntOp.cmpi .sge (BitVec.ofNat 32 (j 1).val) 0#32 = 1#1 := by
    simp only [IntOp.cmpi, BitVec.sle, h2]; simp
  have hle : IntOp.cmpi .sle (BitVec.ofNat 32 (j 1).val) 4095#32 = 1#1 := by
    simp only [IntOp.cmpi, BitVec.sle, h2]
    rw [show (4095#32 : BitVec 32).toInt = 4095 from rfl, decide_eq_true (by omega)]; rfl
  rw [e, hge, hle]; rfl

/-- The rows taken: at batch index `b` and position `s`, row `s` of the table. -/
theorem taken_apply (W : FVec Ideal S4096x2048 .f32) (b : Fin 4) (s d : Fin 2048) : taken W (ix3 b s d) = W (ix2 ⟨s.val, by omega⟩ d) := by
  unfold taken
  rw [select_apply]
  have hm : broadcastInDim S4x2048x2048 ![0, 1] bcast_S4x2048_S4x2048x2048_0_1 inside (ix3 b s d) = 1#1 := inside_apply _
  rw [hm, select_one]
  unfold Host.gather
  refine congrArg W (Shape.idx_ext₂ ?_ ?_)
  · show min (ids (gather_S4096x2048_S4x2048x1_S4x2048x2048_2_0_n_n_0_2_12048.siIdx (ix3 b s d) ⟨0, Nat.one_pos⟩)).toInt.toNat 4095 + 0 + 0 = s.val
    rw [eq_ix3 (gather_S4096x2048_S4x2048x1_S4x2048x2048_2_0_n_n_0_2_12048.siIdx (ix3 b s d) ⟨0, Nat.one_pos⟩)]
    have e : ids (ix3 b s (0 : Fin 1)) = BitVec.ofNat 32 s.val := ids_apply b s 0
    have := s.isLt
    refine (congrArg (fun w : BitVec 32 => min w.toInt.toNat 4095 + 0 + 0) e).trans ?_
    rw [toInt_small]
    omega
  · show 0 + 0 + d.val = d.val
    omega

/-! ## The layer norm of an array of rows -/

/-- The mean of every row. -/
def means (x : FVec Ideal S4x2048x2048 .f32) : FVec Ideal S4x2048x1 .f32 :=
  Host.divf (broadcastInDim S4x2048x1 ![0, 1] bcast_S4x2048_S4x2048x1_0_1 (Host.reduceAdd x (constant S_ .f32 0x00000000#32) reducesTo_S4x2048x2048_S4x2048_d2 h_S_))
    (broadcastInDim S4x2048x1 ![] bcast_S_S4x2048x1 (constant S_ .f32 0x45000000#32))

/-- Every row less its mean. -/
def centred (x : FVec Ideal S4x2048x2048 .f32) : FVec Ideal S4x2048x2048 .f32 :=
  subf x (broadcastInDim S4x2048x2048 ![0, 1, 2] bcast_S4x2048x1_S4x2048x2048_0_1_2 (means x))

/-- The divisor of the variance: the number of columns less the correction zero. -/
def divisor : FVec Ideal S_ .f32 := subf (constant S_ .f32 0x45000000#32) (sitofp .f32 (constantI S_ 32 0#32))

/-- The variance of every row. -/
def vars (x : FVec Ideal S4x2048x2048 .f32) : FVec Ideal S4x2048x1 .f32 :=
  select (broadcastInDim S4x2048x1 ![] bcast_S_S4x2048x1 (cmpf .ogt divisor (constant S_ .f32 0x00000000#32)))
    (Host.divf (broadcastInDim S4x2048x1 ![0, 1] bcast_S4x2048_S4x2048x1_0_1
        (Host.reduceAdd (mulf (centred x) (centred x)) (constant S_ .f32 0x00000000#32) reducesTo_S4x2048x2048_S4x2048_d2 h_S_))
      (broadcastInDim S4x2048x1 ![] bcast_S_S4x2048x1 divisor))
    (broadcastInDim S4x2048x1 ![] bcast_S_S4x2048x1 (id (constant S_ .f32 0x7FC00000#32)))

/-- The layer norm of every row, with scale row `g` and shift row `b`. -/
def normed (x : FVec Ideal S4x2048x2048 .f32) (g b : FVec Ideal S2048 .f32) : FVec Ideal S4x2048x2048 .f32 :=
  addf (mulf (Host.divf (centred x) (broadcastInDim S4x2048x2048 ![0, 1, 2] bcast_S4x2048x1_S4x2048x2048_0_1_2
        (Host.sqrt (addf (vars x) (broadcastInDim S4x2048x1 ![] bcast_S_S4x2048x1 (constant S_ .f32 0x3727C5AC#32))))))
      (broadcastInDim S4x2048x2048 ![0, 1, 2] bcast_S1x1x2048_S4x2048x2048_0_1_2 (broadcastInDim S1x1x2048 ![2] bcast_S2048_S1x1x2048_2 g)))
    (broadcastInDim S4x2048x2048 ![0, 1, 2] bcast_S1x1x2048_S4x2048x2048_0_1_2 (broadcastInDim S1x1x2048 ![2] bcast_S2048_S1x1x2048_2 b))

variable (x : FVec Ideal S4x2048x2048 .f32) (g h : FVec Ideal S2048 .f32) (b : Fin 4) (s d : Fin 2048)

/-- A sum along the last axis, from zero, is the sum of the row. -/
theorem sum_apply : Host.reduceAdd x (constant S_ .f32 0x00000000#32) reducesTo_S4x2048x2048_S4x2048_d2 h_S_ (ix2 b s) = ∑ k : Fin 2048, x (ix3 b s k) := by
  refine (Ideal.hostReduceAdd_single reducesTo_S4x2048x2048_S4x2048_d2 reduces_cols _ _ _).trans ?_
  rw [constant_apply, Ideal.ofBits_zero_f32, zero_add]
  refine Finset.sum_congr rfl fun k _ => congrArg x ?_
  funext a
  match a with | ⟨0, _⟩ => rfl | ⟨1, _⟩ => rfl | ⟨2, _⟩ => rfl

/-- A column array's broadcast along the rows reads its column. -/
theorem col_apply {α : Type} (v : S4x2048x1.Idx → α) :
    broadcastInDim S4x2048x2048 ![0, 1, 2] bcast_S4x2048x1_S4x2048x2048_0_1_2 v (ix3 b s d) = v (ix3 b s (0 : Fin 1)) :=
  broadcastInDim_apply _ _ _ _ _ fun a => match a with | ⟨0, _⟩ => rfl | ⟨1, _⟩ => rfl | ⟨2, _⟩ => rfl

/-- A row's broadcast over the batch indices and positions reads the row at the column. -/
theorem row_apply : broadcastInDim S4x2048x2048 ![0, 1, 2] bcast_S1x1x2048_S4x2048x2048_0_1_2 (broadcastInDim S1x1x2048 ![2] bcast_S2048_S1x1x2048_2 g) (ix3 b s d) = g (ix1 d) :=
  (broadcastInDim_apply _ _ _ _ (ix3 (0 : Fin 1) (0 : Fin 1) d) fun a => match a with | ⟨0, _⟩ => rfl | ⟨1, _⟩ => rfl | ⟨2, _⟩ => rfl).trans
    (broadcastInDim_apply _ _ _ _ (ix1 d) fun a => match a with | ⟨0, _⟩ => rfl)

/-- A per-row number's broadcast to a column array reads the row's number. -/
theorem keep_apply {α : Type} (v : S4x2048.Idx → α) (u : Fin 1) :
    broadcastInDim S4x2048x1 ![0, 1] bcast_S4x2048_S4x2048x1_0_1 v (ix3 b s u) = v (ix2 b s) :=
  broadcastInDim_apply _ _ _ _ _ fun a => match a with | ⟨0, _⟩ => rfl | ⟨1, _⟩ => rfl

/-- The mean of a row. -/
theorem means_apply (u : Fin 1) : means x (ix3 b s u) = RowNorm.mean fun k => x (ix3 b s k) := by
  unfold means
  rw [hostDivf_apply, keep_apply, sum_apply]; rfl

/-- A row less its mean, at a column. -/
theorem centred_apply : centred x (ix3 b s d) = x (ix3 b s d) - RowNorm.mean fun k => x (ix3 b s k) := by
  unfold centred
  rw [subf_apply, col_apply, means_apply]

/-- The divisor of the variance is the number of columns. -/
theorem divisor_apply (j : S_.Idx) : divisor j = RowNorm.width := by
  show RowNorm.width - (((0#32 : BitVec 32).toInt : ℝ) : EReal) = RowNorm.width
  simp

/-- The variance of a row. -/
theorem vars_apply (u : Fin 1) : vars x (ix3 b s u) = RowNorm.var fun k => x (ix3 b s k) := by
  unfold vars
  rw [select_apply, broadcastInDim_scalar_apply]
  have hc : cmpf .ogt divisor (constant S_ .f32 0x00000000#32) ix0 = 1#1 := by
    show Ideal.cmp .ogt (divisor ix0) (Ideal.ofBits .f32 0x00000000#32) = 1#1
    rw [divisor_apply, Ideal.ofBits_zero_f32, RowNorm.width_eq]
    have : (0 : EReal) < ((2048 : ℝ) : EReal) := by rw [← EReal.coe_zero, EReal.coe_lt_coe_iff]; norm_num
    simp only [Ideal.cmp, this, decide_true]; rfl
  rw [hc, select_one, hostDivf_apply, keep_apply, sum_apply, broadcastInDim_scalar_apply, divisor_apply]
  unfold RowNorm.var
  simp only [mulf_apply, centred_apply]

/-- The layer norm of a row, at a column. -/
theorem normed_apply : normed x g h (ix3 b s d) = RowNorm.norm (fun k => x (ix3 b s k)) (g (ix1 d)) (h (ix1 d)) d := by
  unfold normed
  rw [addf_apply, mulf_apply, hostDivf_apply, row_apply, row_apply, col_apply, centred_apply]
  show Ideal.div _ (Ideal.sqrt (vars x (ix3 b s 0) + RowNorm.eps)) * _ + _ = _
  rw [vars_apply]; rfl

/-! ## The result -/

/-- The reference's result is the layer norm of the rows taken. -/
theorem res_eq (m : (ℓ : Loc nD τ sig) → Buf (Elt Ideal) ℓ) (c : Dev nD) :
    Value.res_out0 m c = normed (taken (m ((c.tc : Thread nD τ).loc main_arg1))) (m ((c.tc : Thread nD τ).loc main_arg2)) (m ((c.tc : Thread nD τ).loc main_arg3)) := rfl

/-- The reference's result at batch index `b`, position `s` and column `d`: the layer norm of row `s` of the table at column `d`. -/
theorem res_apply (m : (ℓ : Loc nD τ sig) → Buf (Elt Ideal) ℓ) (c : Dev nD) : Value.res_out0 m c (ix3 b s d)
    = RowNorm.norm (fun k => m ((c.tc : Thread nD τ).loc main_arg1) (ix2 ⟨s.val, by omega⟩ k)) (m ((c.tc : Thread nD τ).loc main_arg2) (ix1 d))
        (m ((c.tc : Thread nD τ).loc main_arg3) (ix1 d)) d := by
  rw [res_eq, normed_apply]
  simp only [taken_apply]

end Cert.ReferenceIdeal.Hand

end
-- ==== Proof.lean ====
module

public import proofs.«01_k».proof.Defs
public import proofs.«01_k».proof.Proof.KernelValue
public import proofs.«01_k».proof.Proof.RefValue
public import proofs.«01_k».proof.Proof.Gen.KernelIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Idealize.ShloMosaic.TcCoe
open Idealize.ShloMosaic.ValueIdx

/-- The ideal kernel's program is the kernel's own program read over the extended reals. -/
theorem main_ideal : (Cert.KernelIdeal.main (F := Ideal)) = (Cert.Kernel.main (F := Ideal)) := by with_unfolding_all rfl

/-- The ideal kernel's body is the kernel's own body read over the extended reals. -/
theorem body_ideal : (Cert.KernelIdeal.defs₀ (F := Ideal)) = (Cert.Kernel.defs₀ (F := Ideal)) := by
  show Defs.onTc _ = Defs.onTc _
  refine congrArg Defs.onTc ?_
  funext ℓ a
  match ℓ, a with
  | 0, (t, s) => with_unfolding_all rfl

/-- The ideal kernel's procedures are the kernel's own procedures read over the extended reals. -/
theorem defs_ideal : (Cert.KernelIdeal.defs (F := Ideal)) = (Cert.Kernel.defs (F := Ideal)) :=
  congrArg (Pipeline.defs (Cert.Kernel.pcfgs (F := Ideal))) body_ideal

/-- The kernel runs, leaves its arguments as they were and every counter at zero. -/
theorem frame_kernel : Cert.quiescent_Kernel := fun m ρ _ => Cert.Kernel.Hand.frame m ρ

/-- The ideal kernel runs, leaves its arguments as they were and every counter at zero. -/
theorem frame_kernelIdeal : Cert.quiescent_KernelIdeal := fun m ρ _ => by
  rw [main_ideal, defs_ideal]
  exact Cert.Kernel.Hand.frame (F := Ideal) m ρ

/-- The reference runs and leaves its arguments as they were; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the reference's result is the kernel's: at every index both are the layer norm of a row of the table. -/
theorem result_eq (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)
    (h1 : m' ((c.tc : Thread Cert.ReferenceIdeal.nD Cert.ReferenceIdeal.τ).loc Cert.ReferenceIdeal.main_arg1) = m ((c.tc : Thread Cert.Kernel.nD Cert.Kernel.τ).loc Cert.Kernel.main_arg1))
    (h2 : m' ((c.tc : Thread Cert.ReferenceIdeal.nD Cert.ReferenceIdeal.τ).loc Cert.ReferenceIdeal.main_arg2) = m ((c.tc : Thread Cert.Kernel.nD Cert.Kernel.τ).loc Cert.Kernel.main_arg2))
    (h3 : m' ((c.tc : Thread Cert.ReferenceIdeal.nD Cert.ReferenceIdeal.τ).loc Cert.ReferenceIdeal.main_arg3) = m ((c.tc : Thread Cert.Kernel.nD Cert.Kernel.τ).loc Cert.Kernel.main_arg3)) :
    (Cert.ReferenceIdeal.Value.res_out0 m' c : FVec Ideal Cert.Kernel.S4x2048x2048 .f32) = Cert.Kernel.Hand.outArr m c := by
  funext j
  rw [eq_ix3 j]
  refine (Cert.ReferenceIdeal.Hand.res_apply (j 0) (j 1) (j 2) m' c).trans (Eq.trans ?_ (Cert.Kernel.Hand.outArr_apply (j 2) m c (j 0) (j 1)).symm)
  rw [h1, h2, h3]

/-- Over the extended reals the kernel and the reference end with equal results. -/
theorem algebraic : Cert.algebraic_KernelIdeal_ReferenceIdeal := by
  intro m ρ m' ρ' _ ha
  refine ⟨fun c => Cert.Kernel.Hand.outArr (F := Ideal) m c, ?_, ?_⟩
  · rw [main_ideal, defs_ideal]
    exact Cert.Kernel.Hand.run (F := Ideal) m ρ
  · exact (θ_run Cert.ReferenceIdeal.defs _ _).mono (fun _ h c => ⟨(h c).1.trans (result_eq m m' c (ha c).2.1 (ha c).2.2.1 (ha c).2.2.2), (h c).2⟩)
      (Cert.ReferenceIdeal.Value.run (F := Ideal) m' ρ')

/-- Every claim of the certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
